-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S4x1024x512 : Shape := ⟨3, ![4, 1024, 512]⟩
abbrev S3x1024x512 : Shape := ⟨3, ![3, 1024, 512]⟩
abbrev S2x4096x256 : Shape := ⟨3, ![2, 4096, 256]⟩
abbrev S2 : Shape := ⟨1, ![2]⟩
abbrev S3 : Shape := ⟨1, ![3]⟩
abbrev S4 : Shape := ⟨1, ![4]⟩
abbrev S8x128 : Shape := ⟨2, ![8, 128]⟩
abbrev S4x8x128 : Shape := ⟨3, ![4, 8, 128]⟩
abbrev S_ : Shape := ⟨0, ![]⟩
abbrev S4096x256 : Shape := ⟨2, ![4096, 256]⟩
abbrev S1x4096x256 : Shape := ⟨3, ![1, 4096, 256]⟩
abbrev S1 : Shape := ⟨1, ![1]⟩
abbrev S1024x256 : Shape := ⟨2, ![1024, 256]⟩
abbrev S1x1024x256 : Shape := ⟨3, ![1, 1024, 256]⟩
abbrev S1x1x1 : Shape := ⟨3, ![1, 1, 1]⟩
abbrev S1x8x128 : Shape := ⟨3, ![1, 8, 128]⟩
abbrev S1x1024x512 : Shape := ⟨3, ![1, 1024, 512]⟩
abbrev S1024x512 : Shape := ⟨2, ![1024, 512]⟩

abbrev nBuf : Space → Nat
  | .hbm => 3
  | .vmem => 11
  | .smem => 0
  | _ => 0

abbrev bufTy : (tb : Table) → Fin (tcTables nBuf tb) → BufTy
  | .hbm, ⟨0, _⟩ => ⟨S1024x4096, .bf16⟩
  | .hbm, ⟨1, _⟩ => ⟨S4096x512, .bf16⟩
  | .hbm, ⟨2, _⟩ => ⟨S4096x512, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .f32⟩
  | .local _ .vmem, ⟨3, _⟩ => ⟨S1024x4096, .bf16⟩
  | .local _ .vmem, ⟨4, _⟩ => ⟨S4x1024x512, .f32⟩
  | .local _ .vmem, ⟨5, _⟩ => ⟨S3x1024x512, .i8⟩
  | .local _ .vmem, ⟨6, _⟩ => ⟨S4x1024x512, .i8⟩
  | .local _ .vmem, ⟨7, _⟩ => ⟨S2x4096x256, .bf16⟩
  | .local _ .vmem, ⟨8, _⟩ => ⟨S2x4096x256, .bf16⟩
  | .local _ .vmem, ⟨9, _⟩ => ⟨S8x128, .f32⟩
  | .local _ .vmem, ⟨10, _⟩ => ⟨S4x8x128, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch7 : Ref sig .tc := ⟨.vmem, 8, rfl⟩
abbrev cc0_scratch12 : Ref sig .tc := ⟨.vmem, 9, rfl⟩
abbrev cc0_scratch13 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_22 : BitVec 32 := 1#32
  let v23 : BitVec 32 := Scalar.muli v7 c1_i32_22
  let v24 : BitVec 32 := Scalar.addi c0_i32_23 v23
  v24.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_32 : BitVec 32 := 1#32
  let v33 : BitVec 32 := Scalar.muli v5 c1_i32_32
  let v34 : BitVec 32 := Scalar.addi c0_i32_33 v33
  v34.toNat
def k0_off1 (d0 : Dev nD) (c0_i32_43 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_42 : BitVec 32 := 4#32
  let v48 : BitVec 32 := Scalar.addi v2 c4_i32_42
  let v49 : BitVec 32 := Scalar.subi v48 c0_i32_43
  let c4_i32_44 : BitVec 32 := 4#32
  let v50 : BitVec 32 := Scalar.remsi v49 c4_i32_44
  let v57 : Index := Scalar.indexCast v50
  let c0_51 : Index := 0#32
  let c0_52 : Index := 0#32
  ![v57.toNat, 0, 0]
def k0_off2 (d0 : Dev nD) (c0_i32_55 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v66 : BitVec 32 := Scalar.addi v2 c0_i32_55
  let c4_i32_56 : BitVec 32 := 4#32
  let v67 : BitVec 32 := Scalar.remsi v66 c4_i32_56
  let v74 : Index := Scalar.indexCast v67
  let c0_64 : Index := 0#32
  let c256_65 : Index := 256#32
  ![v74.toNat, 0, 256]
def k0_dev5 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_106 : BitVec 32 := 1#32
  let v111 : BitVec 32 := Scalar.muli v5 c1_i32_106
  let v112 : BitVec 32 := Scalar.addi c0_i32_107 v111
  v112.toNat
def k0_dev6 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_109 : BitVec 32 := 1#32
  let v113 : BitVec 32 := Scalar.muli v7 c1_i32_109
  let v114 : BitVec 32 := Scalar.addi c0_i32_110 v113
  v114.toNat
def k0_dev7 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_117 : BitVec 32 := 1#32
  let v115 : BitVec 32 := Scalar.muli v7 c1_i32_117
  let v116 : BitVec 32 := Scalar.addi c0_i32_118 v115
  v116.toNat
def k0_dev8 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_127 : BitVec 32 := 1#32
  let v125 : BitVec 32 := Scalar.muli v5 c1_i32_127
  let v126 : BitVec 32 := Scalar.addi c0_i32_128 v125
  v126.toNat
def k0_dev9 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_196 : BitVec 32 := 1#32
  let v198 : BitVec 32 := Scalar.muli v5 c1_i32_196
  let v199 : BitVec 32 := Scalar.addi c0_i32_197 v198
  v199.toNat
def k0_dev10 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_199 : BitVec 32 := 1#32
  let v200 : BitVec 32 := Scalar.muli v7 c1_i32_199
  let v201 : BitVec 32 := Scalar.addi c0_i32_200 v200
  v201.toNat
def k0_dev11 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_207 : BitVec 32 := 1#32
  let v202 : BitVec 32 := Scalar.muli v7 c1_i32_207
  let v203 : BitVec 32 := Scalar.addi c0_i32_208 v202
  v203.toNat
def k0_dev12 (d0 : Dev nD) : Nat :=
  let c0_i32_218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_217 : BitVec 32 := 1#32
  let v212 : BitVec 32 := Scalar.muli v5 c1_i32_217
  let v213 : BitVec 32 := Scalar.addi c0_i32_218 v212
  v213.toNat
def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_317 : BitVec 32 := 0#32
  let c0_i32_318 : BitVec 32 := 0#32
  ![v2.toNat, 0, 0]
def k0_dev13 (d0 : Dev nD) : Nat :=
  let c0_i32_316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_312 : BitVec 32 := 1#32
  let v324 : BitVec 32 := Scalar.addi v2 c1_i32_312
  let c4_i32_313 : BitVec 32 := 4#32
  let v325 : BitVec 32 := Scalar.remsi v324 c4_i32_313
  let c1_i32_315 : BitVec 32 := 1#32
  let v326 : BitVec 32 := Scalar.muli v325 c1_i32_315
  let v327 : BitVec 32 := Scalar.addi c0_i32_316 v326
  v327.toNat
def k0_dev14 (d0 : Dev nD) : Nat :=
  let c0_i32_323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_319 : BitVec 32 := 2#32
  let v334 : BitVec 32 := Scalar.addi v2 c2_i32_319
  let c4_i32_320 : BitVec 32 := 4#32
  let v335 : BitVec 32 := Scalar.remsi v334 c4_i32_320
  let c1_i32_322 : BitVec 32 := 1#32
  let v336 : BitVec 32 := Scalar.muli v335 c1_i32_322
  let v337 : BitVec 32 := Scalar.addi c0_i32_323 v336
  v337.toNat
def k0_dev15 (d0 : Dev nD) : Nat :=
  let c0_i32_330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_326 : BitVec 32 := 3#32
  let v344 : BitVec 32 := Scalar.addi v2 c3_i32_326
  let c4_i32_327 : BitVec 32 := 4#32
  let v345 : BitVec 32 := Scalar.remsi v344 c4_i32_327
  let c1_i32_329 : BitVec 32 := 1#32
  let v346 : BitVec 32 := Scalar.muli v345 c1_i32_329
  let v347 : BitVec 32 := Scalar.addi c0_i32_330 v346
  v347.toNat
def k0_off5 (d0 : Dev nD) (c1_i32_333 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v354 : BitVec 32 := Scalar.addi v2 c1_i32_333
  let c4_i32_334 : BitVec 32 := 4#32
  let v355 : BitVec 32 := Scalar.remsi v354 c4_i32_334
  ![v355.toNat]
def k0_off6 (d0 : Dev nD) (c1_i32_333 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v354 : BitVec 32 := Scalar.addi v2 c1_i32_333
  let c4_i32_334 : BitVec 32 := 4#32
  let v355 : BitVec 32 := Scalar.remsi v354 c4_i32_334
  let c0_i32_338 : BitVec 32 := 0#32
  let c0_i32_339 : BitVec 32 := 0#32
  ![v355.toNat, 0, 0]
def k0_off7 (d0 : Dev nD) (c1_i32_333 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v354 : BitVec 32 := Scalar.addi v2 c1_i32_333
  let c4_i32_334 : BitVec 32 := 4#32
  let v355 : BitVec 32 := Scalar.remsi v354 c4_i32_334
  let v362 : Index := Scalar.indexCast v355
  let c0_340 : Index := 0#32
  let c0_341 : Index := 0#32
  ![v362.toNat, 0, 0]
def k0_off8 (d0 : Dev nD) (c1_i32_365 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v404 : BitVec 32 := Scalar.addi v2 c1_i32_365
  let c4_i32_366 : BitVec 32 := 4#32
  let v405 : BitVec 32 := Scalar.remsi v404 c4_i32_366
  let v406 : Index := Scalar.indexCast v405
  let c0_367 : Index := 0#32
  let c0_368 : Index := 0#32
  ![v406.toNat, 0, 0]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_378 : BitVec 32 := 0#32
  let c0_i32_379 : BitVec 32 := 0#32
  ![v2.toNat, 0, 0]
def k0_dev16 (d0 : Dev nD) : Nat :=
  let c0_i32_377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_365 : BitVec 32 := 1#32
  let v404 : BitVec 32 := Scalar.addi v2 c1_i32_365
  let c4_i32_366 : BitVec 32 := 4#32
  let v405 : BitVec 32 := Scalar.remsi v404 c4_i32_366
  let c1_i32_376 : BitVec 32 := 1#32
  let v420 : BitVec 32 := Scalar.muli v405 c1_i32_376
  let v421 : BitVec 32 := Scalar.addi c0_i32_377 v420
  v421.toNat
def k0_dev17 (d0 : Dev nD) : Nat :=
  let c0_i32_394 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_382 : BitVec 32 := 2#32
  let v430 : BitVec 32 := Scalar.addi v2 c2_i32_382
  let c4_i32_383 : BitVec 32 := 4#32
  let v431 : BitVec 32 := Scalar.remsi v430 c4_i32_383
  let c1_i32_393 : BitVec 32 := 1#32
  let v446 : BitVec 32 := Scalar.muli v431 c1_i32_393
  let v447 : BitVec 32 := Scalar.addi c0_i32_394 v446
  v447.toNat
def k0_dev18 (d0 : Dev nD) : Nat :=
  let c0_i32_410 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_399 : BitVec 32 := 3#32
  let v456 : BitVec 32 := Scalar.addi v2 c3_i32_399
  let c4_i32_400 : BitVec 32 := 4#32
  let v457 : BitVec 32 := Scalar.remsi v456 c4_i32_400
  let c1_i32_409 : BitVec 32 := 1#32
  let v472 : BitVec 32 := Scalar.muli v457 c1_i32_409
  let v473 : BitVec 32 := Scalar.addi c0_i32_410 v472
  v473.toNat
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v482 : Index := Scalar.indexCast v2
  let c0_415 : Index := 0#32
  let c0_416 : Index := 0#32
  ![v482.toNat, 0, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v496 : BitVec 32 := Scalar.muli v2 c1024_i32
  let v497 : Index := Scalar.indexCast v496
  let c0_419 : Index := 0#32
  ![v497.toNat, 0]
def k0_off12 (d0 : Dev nD) (c1_i32_420 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v499 : BitVec 32 := Scalar.addi v2 c1_i32_420
  let c4_i32_421 : BitVec 32 := 4#32
  let v500 : BitVec 32 := Scalar.remsi v499 c4_i32_421
  let c0_i32_426 : BitVec 32 := 0#32
  let c0_i32_427 : BitVec 32 := 0#32
  ![v500.toNat, 0, 0]
def k0_off13 (d0 : Dev nD) (c1_i32_420 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v499 : BitVec 32 := Scalar.addi v2 c1_i32_420
  let c4_i32_421 : BitVec 32 := 4#32
  let v500 : BitVec 32 := Scalar.remsi v499 c4_i32_421
  let c1024_i32_432 : BitVec 32 := 1024#32
  let v515 : BitVec 32 := Scalar.muli v500 c1024_i32_432
  let v516 : Index := Scalar.indexCast v515
  let c0_433 : Index := 0#32
  ![v516.toNat, 0]
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.Cells.lean ====
/-
The protocol's bookkeeping, on every device alike: which semaphore cells the kernel uses, how many rounds each has,
what a device pays to its neighbours and in which order, and the levels that show no wait closes a cycle.

A device's cells are numbered 0 .. 22: 0 the barrier semaphore; 1, 2 and 3, 4 the send and receive semaphores of the
clockwise ring; 5, 6 and 7, 8 those of the counter-clockwise ring; 9 .. 11 the tile send semaphores; 12 .. 15 the tile
receive semaphores, by source device; 16 .. 18 and 19 .. 22 the same for the running maximum.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingQuant

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Devices -/

set_option backward.proofsInPublic true in
/-- The device `k` places after `c` on the ring of four. -/
def dv (c : Dev nD) (k : ℕ) : Dev nD := ⟨(c.val + k) % 4, Nat.mod_lt _ (by decide)⟩

theorem dv_val (c : Dev nD) (k : ℕ) : (dv c k).val = (c.val + k) % 4 := rfl
theorem dv_dv (c : Dev nD) (j k : ℕ) : dv (dv c j) k = dv c (j + k) := by
  apply Fin.ext; simp only [dv_val]; omega
theorem dv_four (c : Dev nD) : dv c 4 = c := by
  apply Fin.ext; have := c.isLt; simp only [dv_val]; have h : c.val < 4 := c.isLt; omega
theorem dv_zero (c : Dev nD) : dv c 0 = c := by
  apply Fin.ext; simp only [dv_val]; have h : c.val < 4 := c.isLt; omega
theorem dv_add_four (c : Dev nD) (k : ℕ) : dv c (k + 4) = dv c k := by
  apply Fin.ext; simp only [dv_val]; omega

/-! ## Cells -/

/-- The runtime's barrier semaphore of collective id 0. -/
abbrev barS : Sem sig := (SemArray.scalar (sig.barrier 0 rfl) : Sems sig S_).sem

/-- Cell `k`'s semaphore. -/
def csem (k : Fin 23) : SemLoc sig := if k.val = 0 then .reg barS else .dma ⟨k.val + 2, by
  have h := k.isLt; show k.val + 2 < 25; omega⟩

/-- The kernel's own (scoped) semaphores: every cell but the barrier's. -/
def osem (k : Fin 22) : SemLoc sig := .dma ⟨k.val + 3, by have h := k.isLt; show k.val + 3 < 25; omega⟩

theorem csem_succ (k : Fin 22) : csem k.succ = osem k := by revert k; decide

/-- Device `c`'s cell `k`. -/
def cell (c : Dev nD) (k : Fin 23) : GSem nD τ sig := ((c : Thread nD τ), csem k)

/-- Which cell a semaphore is, if any. -/
def kindOf (s : SemLoc sig) : Option (Fin 23) := match s with
  | .reg _ => some 0
  | .dma q => if h : 3 ≤ q.val then some ⟨q.val - 2, by have h' := q.isLt; change q.val < 25 at h'; omega⟩ else none

theorem kindOf_stage (q : DmaSem sig) (hq : q.val < 3) : kindOf (.dma q) = none := dif_neg (by omega)

theorem kindOf_csem (k : Fin 23) : kindOf (csem k) = some k := by revert k; decide
theorem kindOf_cell (c : Dev nD) (k : Fin 23) : kindOf (cell c k).2 = some k := kindOf_csem k
theorem csem_injective : Function.Injective csem := fun a b h => by
  have := congrArg kindOf h; rw [kindOf_csem, kindOf_csem] at this; exact Option.some.inj this
theorem cell_inj {c c' : Dev nD} {k k' : Fin 23} (h : cell c k = cell c' k') : c = c' ∧ k = k' :=
  ⟨congrArg (fun g : GSem nD τ sig => g.1.1) h, csem_injective (congrArg Prod.snd h)⟩

/-- The cell that receives from source `s`: its tile, its maximum. -/
def tR (s : Dev nD) : Fin 23 := ⟨12 + s.val, by have h : s.val < 4 := s.isLt; omega⟩
def aR (s : Dev nD) : Fin 23 := ⟨19 + s.val, by have h : s.val < 4 := s.isLt; omega⟩

/-! ## Rounds and amounts -/

/-- How many rounds device `c`'s cell `k` has. A device never sends to itself. -/
def nr (c : Dev nD) (k : Fin 23) : ℕ :=
  if k.val = 0 then 3
  else if k.val = 1 ∨ k.val = 4 ∨ k.val = 5 ∨ k.val = 8 then 2
  else if k = tR c ∨ k = aR c then 0 else 1

/-- The duties of a round: a barrier's `false` is its left neighbour's, `true` its right one's; a copy's is `false`. -/
def dut (c : Dev nD) (k : Fin 23) (r : ℕ) : Finset Bool :=
  if r < nr c k then (if k.val = 0 then Finset.univ else {false}) else ∅

/-- The credit of a half weight block, of a quantised tile, of a maximum's block. -/
def NW : ℕ := (Memref.whole cc0_scratch4 : Memref sig .tc .vmem S2x4096x256 .bf16).view.ref.dmaCredit S4096x256 .bf16
def NT : ℕ := (Memref.whole cc0_scratch3 : Memref sig .tc .vmem S4x1024x512 .i8).view.ref.dmaCredit S1024x512 .i8
def NA : ℕ := (Memref.whole cc0_scratch13 : Memref sig .tc .vmem S4x8x128 .f32).view.ref.dmaCredit S8x128 .f32

theorem NW_pos : 0 < NW := sig.dmaCredit_pos _ _ _ _ _ (by decide)
theorem NT_pos : 0 < NT := sig.dmaCredit_pos _ _ _ _ _ (by decide)
theorem NA_pos : 0 < NA := sig.dmaCredit_pos _ _ _ _ _ (by decide)

/-- What one duty of cell `k` adds to its counter. -/
def amt (k : Fin 23) : ℕ := if k.val = 0 then 1 else if k.val < 9 then NW else if k.val < 16 then NT else NA

theorem amt_pos (k : Fin 23) : 0 < amt k := by
  unfold amt; split
  · exact Nat.one_pos
  · split
    · exact NW_pos
    · split
      · exact NT_pos
      · exact NA_pos

/-! ## What a device pays, in program order -/

/-- Device `c`'s payments to other devices, in order: who is paid, at which cell, in which round. -/
def pays (c : Dev nD) : List (Dev nD × Fin 23 × ℕ) :=
  [(dv c 3, 0, 0), (dv c 1, 0, 0), (dv c 1, 4, 0), (dv c 3, 8, 0),
   (dv c 3, 0, 1), (dv c 1, 0, 1), (dv c 1, 3, 0), (dv c 3, 7, 0),
   (dv c 3, 0, 2), (dv c 1, 0, 2), (dv c 1, 4, 1), (dv c 3, 8, 1),
   (dv c 1, aR c, 0), (dv c 2, aR c, 0), (dv c 3, aR c, 0),
   (dv c 1, tR c, 0), (dv c 2, tR c, 0), (dv c 3, tR c, 0)]

/-- The tallies of a list of payments, the first one outermost. -/
def owedList (l : List (Dev nD × Fin 23 × ℕ)) : CellTallies nD τ sig ℕ :=
  l.foldr (fun p O => O + tallyAt (cell p.1 p.2.1) p.2.2 (amt p.2.1)) 0

/-- What device `c` still owes after its first `i` payments. -/
def Oc (c : Dev nD) (i : ℕ) : CellTallies nD τ sig ℕ := owedList ((pays c).drop i)

theorem owedList_pos {l : List (Dev nD × Fin 23 × ℕ)} {g : GSem nD τ sig} {u : ℕ} (h : 0 < owedList l g u) :
    ∃ p ∈ l, g = cell p.1 p.2.1 ∧ u = p.2.2 := by
  induction l with
  | nil => exact absurd h (Nat.lt_irrefl 0)
  | cons p l ih =>
    change 0 < (owedList l + tallyAt (cell p.1 p.2.1) p.2.2 (amt p.2.1)) g u at h
    rw [Pi.add_apply, Finsupp.add_apply, tallyAt_apply] at h
    by_cases hp : g = cell p.1 p.2.1 ∧ u = p.2.2
    · exact ⟨p, List.mem_cons_self, hp⟩
    · rw [if_neg hp, Nat.add_zero] at h
      obtain ⟨q, hq, h⟩ := ih h
      exact ⟨q, List.mem_cons_of_mem _ hq, h⟩

/-- The level of round `r` of cell `k`. -/
def lvk (k : Fin 23) (r : ℕ) : ℕ :=
  if k.val = 0 then 1 + 2 * r
  else if k.val = 4 ∨ k.val = 8 then 2 + 4 * r
  else if k.val = 3 ∨ k.val = 7 then 4
  else if 19 ≤ k.val then 7
  else if 12 ≤ k.val ∧ k.val ≤ 15 then 8 else 0

def L (g : GSem nD τ sig) : Finset ℕ := if g.1.2 = .tc then {0, 1, 2} else ∅
def lv (g : GSem nD τ sig) (r : ℕ) : ℕ := match kindOf g.2 with | some k => lvk k r | none => 0

theorem L_of_ne (g : GSem nD τ sig) (h : g.1.2 ≠ .tc) : L g = ∅ := if_neg h
theorem L_cell (c : Dev nD) (k : Fin 23) : L (cell c k) = {0, 1, 2} := if_pos rfl
theorem L_tc (c : Dev nD) (sm : SemLoc sig) : L ((c : Thread nD τ), sm) = {0, 1, 2} := if_pos rfl
theorem lv_cell (c : Dev nD) (k : Fin 23) (r : ℕ) : lv (cell c k) r = lvk k r := by unfold lv; rw [kindOf_cell]

theorem pays_round (c : Dev nD) : ∀ p ∈ pays c, p.2.2 ∈ ({0, 1, 2} : Finset ℕ) ∧ 0 < lvk p.2.1 p.2.2 := by revert c; decide

/-- The level condition of a wait at round `r` of cell `k` after `i` payments. -/
def lvOK (c : Dev nD) (k : Fin 23) (r i : ℕ) : Bool := ((pays c).drop i).all fun p => lvk k r < lvk p.2.1 p.2.2

section Waits
variable {F : FTy → Type}
variable {U : Type} [URA U]
local notation "𝕄" => MT nD τ sig ℕ (Elt F) ℕ U ℕ

theorem mayWait_cut (c : Dev nD) (sm : SemLoc sig) (r i b : ℕ) (hr : r ∈ ({0, 1, 2} : Finset ℕ)) (hb : lv ((c : Thread nD τ), sm) r ≤ b)
    (h : ∀ p ∈ (pays c).drop i, b < lvk p.2.1 p.2.2) :
    (levAts L lv : sProp 𝕄) ⊢ MayWait (c : Thread nD τ) sm r (Oc c i) :=
  MayOwe.of_cut (L := L) (lev := lv) b
    (fun p hp => by rw [Finset.mem_singleton.mp hp, L_tc]; exact hr)
    (fun g u hg => by
      obtain ⟨p, hp, rfl, rfl⟩ := owedList_pos hg
      rw [L_cell]; exact (pays_round c p (List.mem_of_mem_drop hp)).1)
    (fun p hp => by rw [Finset.mem_singleton.mp hp]; exact hb)
    (fun g u hg => by
      obtain ⟨p, hp, rfl, rfl⟩ := owedList_pos hg
      rw [lv_cell]; exact h p hp)

theorem mayWait_cell (c : Dev nD) (k : Fin 23) (r i : ℕ) (hr : r < 3) (h : lvOK c k r i = true) :
    (levAts L lv : sProp 𝕄) ⊢ MayWait (c : Thread nD τ) (csem k) r (Oc c i) :=
  mayWait_cut c (csem k) r i (lvk k r) (by simp only [Finset.mem_insert, Finset.mem_singleton]; omega) (le_of_eq (lv_cell c k r))
    (fun p hp => by simpa using List.all_eq_true.mp h p hp)

/-- A wait of the launch's own (staging) semaphores: they are lowest. -/
theorem mayWait_stage (c : Dev nD) (q : DmaSem sig) (hq : q.val < 3) (i : ℕ) :
    (levAts L lv : sProp 𝕄) ⊢ MayWait (c : Thread nD τ) (.dma q) 0 (Oc c i) :=
  mayWait_cut c (.dma q) 0 i 0 (by decide)
    (by unfold lv; rw [kindOf_stage q hq])
    (fun p hp => (pays_round c p (List.mem_of_mem_drop hp)).2)

end Waits

end Cert.RingQuant

end
-- ==== Proof.Contents.lean ====
/-
The slots of the kernel's buffers and what they hold.

A communication buffer is a stack of `n` slots of `a × b` elements. A slot's set is the indices whose leading
coordinate names it; a slot that holds the array `w` holds `spread w` there. The facts below say that a load of a slot
reads `w`, that a store of `w` leaves the slot holding `w`, and that a copy from a slot holding `w` leaves the slot it
lands in holding `w`.
-/
module

public import proofs.«01_k».proof.Proof.Cells

@[expose] public section

noncomputable section

namespace Cert.RingQuant

open Cert.KernelIdeal Cert.KernelIdeal.Gen
open Idealize.ShloMosaic
open Idealize.ShloMosaic.TcCoe

section Index
variable {n a b : ℕ} {α : Type}

/-- The index of the slot's own array under an index of the buffer. -/
def toRow (i : (⟨3, ![n, a, b]⟩ : Shape).Idx) : (⟨3, ![1, a, b]⟩ : Shape).Idx := fun ax =>
  ⟨if ax.val = 0 then 0 else (i ax).val, by
    have h := (i ax).isLt
    fin_cases ax
    · exact Nat.one_pos
    · exact h
    · exact h⟩

/-- The buffer's contents where every slot holds `w`. -/
def spread (w : (⟨3, ![1, a, b]⟩ : Shape).Idx → α) : (⟨3, ![n, a, b]⟩ : Shape).Idx → α := fun i => w (toRow i)

/-- The elements of slot `s`. -/
def slotSet (s : ℕ) : Finset (⟨3, ![n, a, b]⟩ : Shape).Idx := Finset.univ.filter fun i => (i 0).val = s

theorem mem_slotSet {s : ℕ} {i : (⟨3, ![n, a, b]⟩ : Shape).Idx} : i ∈ slotSet s ↔ (i 0).val = s := by
  simp [slotSet]

theorem unit_slot {off : Fin 3 → ℕ} {s : ℕ} (h : off = ![s, 0, 0])
    (inb : ∀ ax, off ax + (![1, a, b] : Fin 3 → ℕ) ax ≤ (⟨3, ![n, a, b]⟩ : Shape).size ax) :
    (Rect.unit (s := ⟨3, ![n, a, b]⟩) off ![1, a, b] inb).set = slotSet s := by
  subst h
  ext i
  rw [Rect.mem_set_unit, mem_slotSet]
  constructor
  · intro hi
    have h0 := hi 0
    have e1 : (![s, 0, 0] : Fin 3 → ℕ) 0 = s := rfl
    have e2 : (![1, a, b] : Fin 3 → ℕ) 0 = 1 := rfl
    rw [e1, e2] at h0
    omega
  · intro hi ax
    have hlt := (i ax).isLt
    fin_cases ax
    · constructor
      · show s ≤ (i 0).val; omega
      · show (i 0).val < s + 1; omega
    · exact ⟨Nat.zero_le _, by show (i 1).val < 0 + a; rw [Nat.zero_add]; exact hlt⟩
    · exact ⟨Nat.zero_le _, by show (i 2).val < 0 + b; rw [Nat.zero_add]; exact hlt⟩

/-- The slot's own index under the buffer index it is placed at. -/
theorem toRow_emb {off : Fin 3 → ℕ} {s : ℕ} (h : off = ![s, 0, 0])
    (inb : ∀ ax, off ax + (![1, a, b] : Fin 3 → ℕ) ax ≤ (⟨3, ![n, a, b]⟩ : Shape).size ax)
    (x : (Rect.unit (s := ⟨3, ![n, a, b]⟩) off ![1, a, b] inb).shape.Idx) :
    toRow ((Rect.unit (s := ⟨3, ![n, a, b]⟩) off ![1, a, b] inb).emb x) = x := by
  subst h
  funext ax
  apply Fin.ext
  have hx := (x ax).isLt
  fin_cases ax
  · have : (x 0).val < 1 := hx
    show 0 = (x 0).val
    omega
  · show 0 + 1 * (x 1).val = (x 1).val; omega
  · show 0 + 1 * (x 2).val = (x 2).val; omega

theorem spread_emb {off : Fin 3 → ℕ} {s : ℕ} (h : off = ![s, 0, 0])
    (inb : ∀ ax, off ax + (![1, a, b] : Fin 3 → ℕ) ax ≤ (⟨3, ![n, a, b]⟩ : Shape).size ax)
    (w : (⟨3, ![1, a, b]⟩ : Shape).Idx → α) (x : (Rect.unit (s := ⟨3, ![n, a, b]⟩) off ![1, a, b] inb).shape.Idx) :
    spread w ((Rect.unit (s := ⟨3, ![n, a, b]⟩) off ![1, a, b] inb).emb x) = w x :=
  congrArg w (toRow_emb h inb x)

end Index

/-! ## Loads, stores and copies of slots, buffer by buffer -/

section Buffers
variable {F : FTy → Type}

abbrev inbW (off : Fin 3 → ℕ) : Prop := ∀ ax, off ax + S1x4096x256.size ax ≤ S2x4096x256.size ax
abbrev inbY (off : Fin 3 → ℕ) : Prop := ∀ ax, off ax + S1x1024x512.size ax ≤ S4x1024x512.size ax
abbrev inbQ (off : Fin 3 → ℕ) : Prop := ∀ ax, off ax + S1x1024x512.size ax ≤ S3x1024x512.size ax
abbrev inbA (off : Fin 3 → ℕ) : Prop := ∀ ax, off ax + S1x8x128.size ax ≤ S4x8x128.size ax

/-- A slot of a buffer as the memref a copy takes. -/
abbrev slW (r : Memref sig .tc .vmem S2x4096x256 .bf16) (off : Fin 3 → ℕ) (h : inbW off) : Memref sig .tc .vmem S4096x256 .bf16 :=
  (r.slice (Rect.unit (s := S2x4096x256) off S1x4096x256.size h) (fun _ => rfl)).squeeze S4096x256 squeezes_S1x4096x256_S4096x256
abbrev slT (r : Memref sig .tc .vmem S4x1024x512 .i8) (off : Fin 3 → ℕ) (h : inbY off) : Memref sig .tc .vmem S1024x512 .i8 :=
  (r.slice (Rect.unit (s := S4x1024x512) off S1x1024x512.size h) (fun _ => rfl)).squeeze S1024x512 squeezes_S1x1024x512_S1024x512
abbrev slQ (r : Memref sig .tc .vmem S3x1024x512 .i8) (off : Fin 3 → ℕ) (h : inbQ off) : Memref sig .tc .vmem S1024x512 .i8 :=
  (r.slice (Rect.unit (s := S3x1024x512) off S1x1024x512.size h) (fun _ => rfl)).squeeze S1024x512 squeezes_S1x1024x512_S1024x512
abbrev slA (r : Memref sig .tc .vmem S4x8x128 .f32) (off : Fin 3 → ℕ) (h : inbA off) : Memref sig .tc .vmem S8x128 .f32 :=
  (r.slice (Rect.unit (s := S4x8x128) off S1x8x128.size h) (fun _ => rfl)).squeeze S8x128 squeezes_S1x8x128_S8x128

abbrev mCw : Memref sig .tc .vmem S2x4096x256 .bf16 := Memref.whole cc0_scratch4
abbrev mCc : Memref sig .tc .vmem S2x4096x256 .bf16 := Memref.whole cc0_scratch7
abbrev mQs : Memref sig .tc .vmem S3x1024x512 .i8 := Memref.whole cc0_scratch2
abbrev mQr : Memref sig .tc .vmem S4x1024x512 .i8 := Memref.whole cc0_scratch3
abbrev mAs : Memref sig .tc .vmem S8x128 .f32 := Memref.whole cc0_scratch12
abbrev mAd : Memref sig .tc .vmem S4x8x128 .f32 := Memref.whole cc0_scratch13
abbrev mX : Memref sig .tc .vmem S1024x4096 .bf16 := Memref.whole cc0_stg0_0
abbrev mW : Memref sig .tc .vmem S4096x512 .bf16 := Memref.whole cc0_stg1_0
abbrev mO : Memref sig .tc .vmem S4096x512 .f32 := Memref.whole cc0_stg2_0
abbrev mXb : Memref sig .tc .vmem S1024x4096 .bf16 := Memref.whole cc0_scratch0
abbrev mY : Memref sig .tc .vmem S4x1024x512 .f32 := Memref.whole cc0_scratch1

variable {off off' : Fin 3 → ℕ} {s s' : ℕ}

/-! ### The clockwise ring's buffer -/

theorem set_cw (h : off = ![s, 0, 0]) (i : inbW off) : (slW mCw off i).view.set = slotSet s := by
  rw [show (slW mCw off i).view.set = (Rect.unit (s := S2x4096x256) off S1x4096x256.size i).set from
    (View.set_reshape _ _).trans (View.set_slice_whole _ _)]
  exact unit_slot h i

theorem load_cw (h : off = ![s, 0, 0]) (i : inbW off) (w : Vec F S1x4096x256 .bf16) :
    mCw.view.readAt (Elt F) (Rect.unit (s := S2x4096x256) off S1x4096x256.size i).toLoadRect (spread w) = w :=
  funext fun x => spread_emb h i w x

theorem store_cw (h : off = ![s, 0, 0]) (i : inbW off) (f : S2x4096x256.Idx → Elt F .bf16) (w : Vec F S1x4096x256 .bf16) :
    ∀ j ∈ slotSet s, (mCw.access (Rect.unit (s := S2x4096x256) off S1x4096x256.size i)).write (Elt F) f w Finset.univ j = spread w j := by
  intro j hj
  rw [← unit_slot h i, ← Rect.map_emb_univ, Finset.mem_map] at hj
  obtain ⟨x, -, rfl⟩ := hj
  rw [spread_emb h i w x]
  exact View.write_emb_of_mem (v := mCw.access (Rect.unit (s := S2x4096x256) off S1x4096x256.size i)) (Val := Elt F) f w (Finset.mem_univ x)

theorem copy_cw (h : off = ![s, 0, 0]) (i : inbW off) (h' : off' = ![s', 0, 0]) (i' : inbW off')
    (f : S2x4096x256.Idx → Elt F .bf16) (w : Vec F S1x4096x256 .bf16) :
    ∀ j ∈ slotSet s', (slW mCw off' i').view.write (Elt F) f ((slW mCw off i).view.read (Elt F) (spread w)) Finset.univ j = spread w j := by
  intro j hj
  rw [← set_cw h' i', View.set, Finset.mem_map] at hj
  obtain ⟨x, -, rfl⟩ := hj
  refine (View.write_emb_of_mem (v := (slW mCw off' i').view) (Val := Elt F) f _ (Finset.mem_univ x)).trans ?_
  exact (spread_emb h i w _).trans (spread_emb h' i' w _).symm

/-! ### The counter-clockwise ring's buffer -/

theorem set_cc (h : off = ![s, 0, 0]) (i : inbW off) : (slW mCc off i).view.set = slotSet s := by
  rw [show (slW mCc off i).view.set = (Rect.unit (s := S2x4096x256) off S1x4096x256.size i).set from
    (View.set_reshape _ _).trans (View.set_slice_whole _ _)]
  exact unit_slot h i

theorem load_cc (h : off = ![s, 0, 0]) (i : inbW off) (w : Vec F S1x4096x256 .bf16) :
    mCc.view.readAt (Elt F) (Rect.unit (s := S2x4096x256) off S1x4096x256.size i).toLoadRect (spread w) = w :=
  funext fun x => spread_emb h i w x

theorem store_cc (h : off = ![s, 0, 0]) (i : inbW off) (f : S2x4096x256.Idx → Elt F .bf16) (w : Vec F S1x4096x256 .bf16) :
    ∀ j ∈ slotSet s, (mCc.access (Rect.unit (s := S2x4096x256) off S1x4096x256.size i)).write (Elt F) f w Finset.univ j = spread w j := by
  intro j hj
  rw [← unit_slot h i, ← Rect.map_emb_univ, Finset.mem_map] at hj
  obtain ⟨x, -, rfl⟩ := hj
  rw [spread_emb h i w x]
  exact View.write_emb_of_mem (v := mCc.access (Rect.unit (s := S2x4096x256) off S1x4096x256.size i)) (Val := Elt F) f w (Finset.mem_univ x)

theorem copy_cc (h : off = ![s, 0, 0]) (i : inbW off) (h' : off' = ![s', 0, 0]) (i' : inbW off')
    (f : S2x4096x256.Idx → Elt F .bf16) (w : Vec F S1x4096x256 .bf16) :
    ∀ j ∈ slotSet s', (slW mCc off' i').view.write (Elt F) f ((slW mCc off i).view.read (Elt F) (spread w)) Finset.univ j = spread w j := by
  intro j hj
  rw [← set_cc h' i', View.set, Finset.mem_map] at hj
  obtain ⟨x, -, rfl⟩ := hj
  refine (View.write_emb_of_mem (v := (slW mCc off' i').view) (Val := Elt F) f _ (Finset.mem_univ x)).trans ?_
  exact (spread_emb h i w _).trans (spread_emb h' i' w _).symm

/-! ### The quantised tiles -/

theorem set_qs (h : off = ![s, 0, 0]) (i : inbQ off) : (slQ mQs off i).view.set = slotSet s := by
  rw [show (slQ mQs off i).view.set = (Rect.unit (s := S3x1024x512) off S1x1024x512.size i).set from
    (View.set_reshape _ _).trans (View.set_slice_whole _ _)]
  exact unit_slot h i

theorem set_qr (h : off = ![s, 0, 0]) (i : inbY off) : (slT mQr off i).view.set = slotSet s := by
  rw [show (slT mQr off i).view.set = (Rect.unit (s := S4x1024x512) off S1x1024x512.size i).set from
    (View.set_reshape _ _).trans (View.set_slice_whole _ _)]
  exact unit_slot h i

theorem load_qr (h : off = ![s, 0, 0]) (i : inbY off) (w : Vec F S1x1024x512 .i8) :
    mQr.view.readAt (Elt F) (Rect.unit (s := S4x1024x512) off S1x1024x512.size i).toLoadRect (spread w) = w :=
  funext fun x => spread_emb h i w x

theorem store_qs (h : off = ![s, 0, 0]) (i : inbQ off) (f : S3x1024x512.Idx → Elt F .i8) (w : Vec F S1x1024x512 .i8) :
    ∀ j ∈ slotSet s, (mQs.access (Rect.unit (s := S3x1024x512) off S1x1024x512.size i)).write (Elt F) f w Finset.univ j = spread w j := by
  intro j hj
  rw [← unit_slot h i, ← Rect.map_emb_univ, Finset.mem_map] at hj
  obtain ⟨x, -, rfl⟩ := hj
  rw [spread_emb h i w x]
  exact View.write_emb_of_mem (v := mQs.access (Rect.unit (s := S3x1024x512) off S1x1024x512.size i)) (Val := Elt F) f w (Finset.mem_univ x)

theorem copy_q (h : off = ![s, 0, 0]) (i : inbQ off) (h' : off' = ![s', 0, 0]) (i' : inbY off')
    (f : S4x1024x512.Idx → Elt F .i8) (w : Vec F S1x1024x512 .i8) :
    ∀ j ∈ slotSet s', (slT mQr off' i').view.write (Elt F) f ((slQ mQs off i).view.read (Elt F) (spread w)) Finset.univ j = spread w j := by
  intro j hj
  rw [← set_qr h' i', View.set, Finset.mem_map] at hj
  obtain ⟨x, -, rfl⟩ := hj
  refine (View.write_emb_of_mem (v := (slT mQr off' i').view) (Val := Elt F) f _ (Finset.mem_univ x)).trans ?_
  exact (spread_emb h i w _).trans (spread_emb h' i' w _).symm

/-! ### The running maximum -/

theorem set_ad (h : off = ![s, 0, 0]) (i : inbA off) : (slA mAd off i).view.set = slotSet s := by
  rw [show (slA mAd off i).view.set = (Rect.unit (s := S4x8x128) off S1x8x128.size i).set from
    (View.set_reshape _ _).trans (View.set_slice_whole _ _)]
  exact unit_slot h i

theorem load_ad (i : inbA off) (v : Elt F .f32) :
    mAd.view.readAt (Elt F) (Rect.unit (s := S4x8x128) off S1x8x128.size i).toLoadRect (fun _ => v) = fun _ => v := rfl

theorem copy_a (i' : inbA off') (f : S4x8x128.Idx → Elt F .f32) (v : Elt F .f32) :
    ∀ j ∈ (slA mAd off' i').view.set, (slA mAd off' i').view.write (Elt F) f (mAs.view.read (Elt F) (fun _ => v)) Finset.univ j = v := by
  intro j hj
  rw [View.set, Finset.mem_map] at hj
  obtain ⟨x, -, rfl⟩ := hj
  exact View.write_emb_of_mem (v := (slA mAd off' i').view) (Val := Elt F) f _ (Finset.mem_univ x)

end Buffers

end Cert.RingQuant

end
-- ==== Proof.Values.lean ====
/-
What the kernel computes, device by device, as functions of the devices' inputs `X` (a device's rows of `x`) and `W`
(its columns of `w`), at any reading of the floats: the halves of the weights that travel round the rings, the product
tiles, the running maximum, the scale, the quantised tiles and the output. Then the two buffers filled piece by piece,
the product tiles and the output, as facts on what the pieces written so far hold.
-/
module

public import proofs.«01_k».proof.Proof.Contents

@[expose] public section

noncomputable section

namespace Cert.RingQuant

open Cert.KernelIdeal Cert.KernelIdeal.Gen
open Idealize.ShloMosaic
open Idealize.ShloMosaic.TcCoe

section
variable {F : FTy → Type} [FloatOps F]
variable (X : Dev nD → Vec F S1024x4096 .bf16) (W : Dev nD → Vec F S4096x512 .bf16)

/-- The left half of device `d`'s weights, as a slot holds it. -/
def wL (d : Dev nD) : Vec F S1x4096x256 .bf16 :=
  k0_pay1 (mW.view.readAt (Elt F) (Rect.unit (s := S4096x512) ![0, 0] S4096x256.size inb_S4096x512_S4096x256_0_0).toLoadRect (W d))
/-- The right half. -/
def wR (d : Dev nD) : Vec F S1x4096x256 .bf16 :=
  k0_pay2 (mW.view.readAt (Elt F) (Rect.unit (s := S4096x512) ![0, 256] S4096x256.size inb_S4096x512_S4096x256_0_256).toLoadRect (W d))
/-- Device `c`'s rows. -/
def xb (c : Dev nD) : Vec F S1024x4096 .bf16 := k0_pay3 (X c)

/-- Device `c`'s rows times the left half of `d`'s columns, negatives cut off. -/
def yL (c d : Dev nD) : Vec F S1x1024x256 .f32 := k0_pay6 (k0_pay4 (wL W d)) (xb X c)
/-- The same for the right half. -/
def yR (c d : Dev nD) : Vec F S1x1024x256 .f32 := k0_pay8 (wR W d) (xb X c)

/-- The running maximum of device `c`'s products after each of the four steps. -/
def m0 (c : Dev nD) : F .f32 := k0_pay9 (k0_pay4 (wL W c)) (xb X c) (wR W c) (xb X c)
def m1 (c : Dev nD) : F .f32 := k0_pay14 (m0 X W c) (wL W (dv c 3)) (xb X c) (wR W (dv c 1)) (xb X c)
def m2 (c : Dev nD) : F .f32 :=
  k0_pay20 (k0_pay17 (m1 X W c) (wL W (dv c 2)) (xb X c)) (k0_pay18 (wR W (dv c 2)) (xb X c))
def m3 (c : Dev nD) : F .f32 :=
  k0_pay27 (k0_pay23 (m2 X W c) (wL W (dv c 1)) (xb X c)) (k0_pay24 (wR W (dv c 3))) (xb X c)

/-- Device `d`'s maximum as its peers receive it. -/
def am (d : Dev nD) : Vec F S1x8x128 .f32 := fun _ => m3 X W d

/-- The maximum over all devices but two, as device `c` folds it, then the scale and its inverse. -/
def g1 (c : Dev nD) : F .f32 := k0_pay29 (m3 X W c) (am X W (dv c 1))
def sc (c : Dev nD) : F .f32 := k0_pay31 (g1 X W c) (am X W (dv c 2)) (am X W (dv c 3))
def iv (c : Dev nD) : F .f32 := k0_pay32 (g1 X W c) (am X W (dv c 2)) (am X W (dv c 3))

/-! ### Indices -/

/-- A column of the left half among all the columns of a tile, and of the right half. -/
def ixL (x : S1x1024x512.Idx) (h : (x 2).val < 256) : S1x1024x256.Idx := fun ax =>
  ⟨(x ax).val, by
    have h1 := (x ax).isLt
    fin_cases ax
    · exact h1
    · exact h1
    · exact h⟩
def ixR (x : S1x1024x512.Idx) : S1x1024x256.Idx := fun ax =>
  ⟨if ax.val = 2 then (x ax).val - 256 else (x ax).val, by
    have h1 := (x ax).isLt
    fin_cases ax
    · exact h1
    · exact h1
    · have : (x 2).val < 512 := h1
      show (x 2).val - 256 < 256
      omega⟩

/-- Device `c`'s product tile for `d`'s columns. -/
def yt (c d : Dev nD) : Vec F S1x1024x512 .f32 := fun x =>
  if h : (x 2).val < 256 then yL X W c d (ixL x h) else yR X W c d (ixR x)

/-- All of device `c`'s products: a tile for every owner of columns. -/
def Y (c : Dev nD) : S4x1024x512.Idx → F .f32 := fun i => yt X W c (i 0) (toRow i)

/-- The tile device `c` quantises for `d`. -/
def qt (c d : Dev nD) : IVec S1x1024x512 8 := k0_pay36 (iv X W c) (yt X W c d)

/-- Device `c`'s output rows from device `s`: its own, quantised and scaled back in place, or a received tile's. -/
def ot (c s : Dev nD) : FVec F S1024x512 .f32 :=
  if s = c then k0_pay38 (sc X W c) (iv X W c) (yt X W c c) else k0_pay39 (sc X W c) (qt X W s c)

/-- The output's block row, and an index within the block. -/
def oBlk (i : S4096x512.Idx) : Dev nD := ⟨(i 0).val / 1024, by
  have h : (i 0).val < 4096 := (i 0).isLt
  show (i 0).val / 1024 < 4
  omega⟩
def oIn (i : S4096x512.Idx) : S1024x512.Idx := fun ax =>
  ⟨if ax.val = 0 then (i ax).val % 1024 else (i ax).val, by
    have h1 := (i ax).isLt
    fin_cases ax
    · exact Nat.mod_lt _ (by decide)
    · exact h1⟩

/-- Device `c`'s output. -/
def Out (c : Dev nD) : S4096x512.Idx → F .f32 := fun i => ot X W c (oBlk i) (oIn i)

/-! ### The same value spelt by different steps -/

theorem pay11_eq (c d : Dev nD) : k0_pay11 (wL W d) (xb X c) = yL X W c d := rfl
theorem pay13_eq (c d : Dev nD) : k0_pay13 (wR W d) (xb X c) = yR X W c d := rfl
theorem pay16_eq (c d : Dev nD) : k0_pay16 (wL W d) (xb X c) = yL X W c d := rfl
theorem pay19_eq (c d : Dev nD) : k0_pay19 (wR W d) (xb X c) = yR X W c d := rfl
theorem pay22_eq (c d : Dev nD) : k0_pay22 (wL W d) (xb X c) = yL X W c d := rfl
theorem pay26_eq (c d : Dev nD) : k0_pay26 (k0_pay24 (wR W d)) (xb X c) = yR X W c d := rfl
theorem pay28_eq (c : Dev nD) :
    k0_pay28 (k0_pay23 (m2 X W c) (wL W (dv c 1)) (xb X c)) (k0_pay24 (wR W (dv c 3))) (xb X c) = fun _ => m3 X W c := rfl
theorem pay35_eq (c d : Dev nD) :
    k0_pay35 (k0_pay33 (g1 X W c) (am X W (dv c 2)) (am X W (dv c 3)) (yt X W c d)) (Scalar.ofBits .f32 0x42FE0000#32) k0_pay34
      = qt X W c d := rfl
theorem pay37_eq (c d : Dev nD) : k0_pay37 (iv X W c) (yt X W c d) = qt X W c d := rfl
theorem pay40_eq (c d : Dev nD) : k0_pay40 (sc X W c) (qt X W d c) = k0_pay39 (sc X W c) (qt X W d c) := rfl
theorem pay42_eq (c d : Dev nD) : k0_pay42 (sc X W c) (k0_pay41 (F := F) (qt X W d c)) = k0_pay39 (sc X W c) (qt X W d c) := rfl

theorem ot_self (c : Dev nD) : ot X W c c = k0_pay38 (sc X W c) (iv X W c) (yt X W c c) := if_pos rfl
theorem ot_ne {c s : Dev nD} (h : s ≠ c) : ot X W c s = k0_pay39 (sc X W c) (qt X W s c) := if_neg h

/-! ### The product tiles, filled half a tile at a time -/

/-- `f` holds the left halves of `nL` tiles, going down from device `c`'s own, and the right halves of `nR`, going up. -/
def YGood (c : Dev nD) (nL nR : ℕ) (f : S4x1024x512.Idx → F .f32) : Prop :=
  ∀ i, ((∃ h < nL, (i 0).val = (c.val + 4 - h) % 4) ∧ (i 2).val < 256)
    ∨ ((∃ h < nR, (i 0).val = (c.val + h) % 4) ∧ 256 ≤ (i 2).val) → f i = Y X W c i

theorem YGood_zero (c : Dev nD) (f : S4x1024x512.Idx → F .f32) : YGood X W c 0 0 f := by
  rintro i (⟨⟨h, hl, -⟩, -⟩ | ⟨⟨h, hl, -⟩, -⟩) <;> exact absurd hl (Nat.not_lt_zero h)

theorem YGood_full {c : Dev nD} {f : S4x1024x512.Idx → F .f32} (h : YGood X W c 4 4 f) : f = Y X W c := by
  funext i
  apply h i
  have hc : c.val < 4 := c.isLt
  have hi : (i 0).val < 4 := (i 0).isLt
  by_cases h2 : (i 2).val < 256
  · exact .inl ⟨⟨(c.val + 4 - (i 0).val) % 4, by omega, by omega⟩, h2⟩
  · exact .inr ⟨⟨((i 0).val + 4 - c.val) % 4, by omega, by omega⟩, by omega⟩

abbrev inbH (off : Fin 3 → ℕ) : Prop := ∀ ax, off ax + S1x1024x256.size ax ≤ S4x1024x512.size ax
abbrev rH (off : Fin 3 → ℕ) (h : inbH off) : Rect S4x1024x512 := Rect.unit (s := S4x1024x512) off S1x1024x256.size h

theorem Y_left {off : Fin 3 → ℕ} (c d : Dev nD) (h : off = ![d.val, 0, 0]) (i : inbH off) (x : (rH off i).shape.Idx) :
    Y X W c ((rH off i).emb x) = yL X W c d x := by
  subst h
  have h0 : (x 0).val < 1 := (x 0).isLt
  have h2 : (x 2).val < 256 := (x 2).isLt
  have e0 : ((rH _ i).emb x) 0 = d := Fin.ext (by show d.val + 1 * (x 0).val = d.val; omega)
  have e2 : ((toRow ((rH _ i).emb x)) 2).val < 256 := by show 0 + 1 * (x 2).val < 256; omega
  unfold Y yt
  rw [e0, dif_pos e2]
  congr 1
  funext ax
  apply Fin.ext
  fin_cases ax
  · show 0 = (x 0).val; omega
  · show 0 + 1 * (x 1).val = (x 1).val; omega
  · show 0 + 1 * (x 2).val = (x 2).val; omega

theorem Y_right {off : Fin 3 → ℕ} (c d : Dev nD) (h : off = ![d.val, 0, 256]) (i : inbH off) (x : (rH off i).shape.Idx) :
    Y X W c ((rH off i).emb x) = yR X W c d x := by
  subst h
  have h0 : (x 0).val < 1 := (x 0).isLt
  have h2 : (x 2).val < 256 := (x 2).isLt
  have e0 : ((rH _ i).emb x) 0 = d := Fin.ext (by show d.val + 1 * (x 0).val = d.val; omega)
  have e2 : ¬ ((toRow ((rH _ i).emb x)) 2).val < 256 := by show ¬ 256 + 1 * (x 2).val < 256; omega
  unfold Y yt
  rw [e0, dif_neg e2]
  congr 1
  funext ax
  apply Fin.ext
  fin_cases ax
  · show 0 = (x 0).val; omega
  · show 0 + 1 * (x 1).val = (x 1).val; omega
  · show 256 + 1 * (x 2).val - 256 = (x 2).val; omega

/-- A store of half a tile: where it writes, and where it does not. -/
theorem write_half {off : Fin 3 → ℕ} (i : inbH off) (f g : S4x1024x512.Idx → F .f32) (w : Vec F S1x1024x256 .f32)
    (hw : ∀ x, w x = g ((rH off i).emb x)) (j : S4x1024x512.Idx) (hj : j ∉ (rH off i).set → f j = g j) :
    (mY.access (rH off i)).write (Elt F) f w Finset.univ j = g j := by
  by_cases hm : j ∈ (rH off i).set
  · rw [← Rect.map_emb_univ, Finset.mem_map] at hm
    obtain ⟨x, -, rfl⟩ := hm
    exact (View.write_emb_of_mem (v := mY.access (rH off i)) (Val := Elt F) f w (Finset.mem_univ x)).trans (hw x)
  · refine (View.write_of_not_mem (v := mY.access (rH off i)) (Val := Elt F) f w Finset.univ ?_).trans (hj hm)
    rw [View.setOn_univ]
    exact fun hm' => hm (by rw [View.set_slice_whole] at hm'; exact hm')

theorem YGood_left {off : Fin 3 → ℕ} {c d : Dev nD} {nL nR : ℕ} {f : S4x1024x512.Idx → F .f32} (hf : YGood X W c nL nR f)
    (hd : d.val = (c.val + 4 - nL) % 4) (h : off = ![d.val, 0, 0]) (i : inbH off) :
    YGood X W c (nL + 1) nR ((mY.access (rH off i)).write (Elt F) f (yL X W c d) Finset.univ) := by
  intro j hj
  refine write_half i f _ _ (fun x => (Y_left X W c d h i x).symm) j fun hm => hf j ?_
  rcases hj with ⟨⟨k, hk, hjk⟩, h2⟩ | hj
  · refine .inl ⟨⟨k, ?_, hjk⟩, h2⟩
    rcases Nat.lt_succ_iff_lt_or_eq.mp hk with hk | rfl
    · exact hk
    · exfalso; apply hm
      subst h
      rw [Rect.mem_set_unit]
      intro ax
      have hlt := (j ax).isLt
      fin_cases ax
      · show d.val ≤ (j 0).val ∧ (j 0).val < d.val + 1; omega
      · exact ⟨Nat.zero_le _, by show (j 1).val < 0 + 1024; rw [Nat.zero_add]; exact hlt⟩
      · show 0 ≤ (j 2).val ∧ (j 2).val < 0 + 256; omega
  · exact .inr hj

theorem YGood_right {off : Fin 3 → ℕ} {c d : Dev nD} {nL nR : ℕ} {f : S4x1024x512.Idx → F .f32} (hf : YGood X W c nL nR f)
    (hd : d.val = (c.val + nR) % 4) (h : off = ![d.val, 0, 256]) (i : inbH off) :
    YGood X W c nL (nR + 1) ((mY.access (rH off i)).write (Elt F) f (yR X W c d) Finset.univ) := by
  intro j hj
  refine write_half i f _ _ (fun x => (Y_right X W c d h i x).symm) j fun hm => hf j ?_
  rcases hj with hj | ⟨⟨k, hk, hjk⟩, h2⟩
  · exact .inl hj
  · refine .inr ⟨⟨k, ?_, hjk⟩, h2⟩
    rcases Nat.lt_succ_iff_lt_or_eq.mp hk with hk | rfl
    · exact hk
    · exfalso; apply hm
      subst h
      rw [Rect.mem_set_unit]
      intro ax
      have hlt := (j ax).isLt
      fin_cases ax
      · show d.val ≤ (j 0).val ∧ (j 0).val < d.val + 1; omega
      · exact ⟨Nat.zero_le _, by show (j 1).val < 0 + 1024; rw [Nat.zero_add]; exact hlt⟩
      · have : (j 2).val < 512 := hlt
        show 256 ≤ (j 2).val ∧ (j 2).val < 256 + 256; omega

/-- A load of device `d`'s tile. -/
theorem load_Y {off : Fin 3 → ℕ} (c d : Dev nD) (h : off = ![d.val, 0, 0]) (i : inbY off) :
    mY.view.readAt (Elt F) (Rect.unit (s := S4x1024x512) off S1x1024x512.size i).toLoadRect (Y X W c) = yt X W c d := by
  funext x
  show Y X W c ((Rect.unit (s := S4x1024x512) off S1x1024x512.size i).emb x) = yt X W c d x
  unfold Y
  rw [toRow_emb h i]
  congr 1
  subst h
  have h0 : (x 0).val < 1 := (x 0).isLt
  exact Fin.ext (by show d.val + 1 * (x 0).val = d.val; omega)

/-! ### The output, filled a block of rows at a time -/

def OGood (c : Dev nD) (n : ℕ) (f : S4096x512.Idx → F .f32) : Prop :=
  ∀ i : S4096x512.Idx, (∃ k < n, (i 0).val / 1024 = (c.val + k) % 4) → f i = Out X W c i

theorem OGood_zero (c : Dev nD) (f : S4096x512.Idx → F .f32) : OGood X W c 0 f := by
  rintro i ⟨h, hl, -⟩; exact absurd hl (Nat.not_lt_zero h)

theorem OGood_full {c : Dev nD} {f : S4096x512.Idx → F .f32} (h : OGood X W c 4 f) : f = Out X W c := by
  funext i
  apply h i
  have hc : c.val < 4 := c.isLt
  have hi : (i 0).val < 4096 := (i 0).isLt
  exact ⟨((i 0).val / 1024 + 4 - c.val) % 4, by omega, by omega⟩

abbrev inbO (off : Fin 2 → ℕ) : Prop := ∀ ax, off ax + S1024x512.size ax ≤ S4096x512.size ax
abbrev rO (off : Fin 2 → ℕ) (h : inbO off) : Rect S4096x512 := Rect.unit (s := S4096x512) off S1024x512.size h

theorem Out_emb {off : Fin 2 → ℕ} (c s : Dev nD) (h : off = ![1024 * s.val, 0]) (i : inbO off) (x : (rO off i).shape.Idx) :
    Out X W c ((rO off i).emb x) = ot X W c s x := by
  subst h
  have h0 : (x 0).val < 1024 := (x 0).isLt
  have e0 : oBlk ((rO _ i).emb x) = s := Fin.ext (by show (1024 * s.val + 1 * (x 0).val) / 1024 = s.val; omega)
  unfold Out
  rw [e0]
  congr 1
  funext ax
  apply Fin.ext
  fin_cases ax
  · show (1024 * s.val + 1 * (x 0).val) % 1024 = (x 0).val; omega
  · show 0 + 1 * (x 1).val = (x 1).val; omega

theorem OGood_store {off : Fin 2 → ℕ} {c s : Dev nD} {n : ℕ} {f : S4096x512.Idx → F .f32} (hf : OGood X W c n f)
    (hs : s.val = (c.val + n) % 4) (h : off = ![1024 * s.val, 0]) (i : inbO off) (w : Vec F S1024x512 .f32) (hw : w = ot X W c s) :
    OGood X W c (n + 1) ((mO.access (rO off i)).write (Elt F) f w Finset.univ) := by
  subst hw
  intro j hj
  by_cases hm : j ∈ (rO off i).set
  · rw [← Rect.map_emb_univ, Finset.mem_map] at hm
    obtain ⟨x, -, rfl⟩ := hm
    exact (View.write_emb_of_mem (v := mO.access (rO off i)) (Val := Elt F) f _ (Finset.mem_univ x)).trans (Out_emb X W c s h i x).symm
  · refine (View.write_of_not_mem (v := mO.access (rO off i)) (Val := Elt F) f _ Finset.univ ?_).trans (hf j ?_)
    · rw [View.setOn_univ]
      exact fun hm' => hm (by rw [View.set_slice_whole] at hm'; exact hm')
    · obtain ⟨k, hk, hjk⟩ := hj
      refine ⟨k, ?_, hjk⟩
      rcases Nat.lt_succ_iff_lt_or_eq.mp hk with hk | rfl
      · exact hk
      · exfalso; apply hm
        subst h
        rw [Rect.mem_set_unit]
        intro ax
        have hlt := (j ax).isLt
        fin_cases ax
        · show 1024 * s.val ≤ (j 0).val ∧ (j 0).val < 1024 * s.val + 1024; omega
        · exact ⟨Nat.zero_le _, by show (j 1).val < 0 + 512; rw [Nat.zero_add]; exact hlt⟩

end

end Cert.RingQuant

end
-- ==== Proof.Plan.lean ====
/-
The protocol, with the contents handed over.

Barrier, three rounds (at entry, after hop 0 and after hop 1): a device tells each neighbour that the slot the
neighbour's next hop lands in is free, and hands that slot over. The first two rounds also hand over the slots in which
a device receives its peers' maxima and tiles; those for the device opposite go through the right neighbour.

Rings: a landing hands its receiver the slot with the weights it brought, and that the sender has passed the barrier
round it waited for, which is what the receiver needs to signal the sender's next round. A completed send hands its
issuer back the share of the slot it read.

Maxima and tiles: a landing hands over the slot with the sender's maximum or tile; a completed send gives its source
back.
-/
module

public import proofs.«01_k».proof.Proof.Values

@[expose] public section

noncomputable section

namespace Cert.RingQuant

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB
local notation "𝕄" => MT nD τ sig ℕ (Elt F) ℕ UU ℕ
abbrev EP : Emb (UR sig nD τ) (MT nD τ sig ℕ (Elt F) ℕ UU ℕ) := embL
abbrev ER : Emb UB (MT nD τ sig ℕ (Elt F) ℕ UU ℕ) := embR

/-! ## Slots held -/

/-- Slot `s` of device `c`'s clockwise buffer at share `q`, holding `f`; the other buffers' slots alike. -/
def cw (c : Dev nD) (s : ℕ) (q : PosShare TreeShare) (f : S2x4096x256.Idx → F .bf16) : sProp 𝕄 :=
  ((c : Thread nD τ).loc cc0_scratch4) ↦[slotSet s]{q} f
def cc (c : Dev nD) (s : ℕ) (q : PosShare TreeShare) (f : S2x4096x256.Idx → F .bf16) : sProp 𝕄 :=
  ((c : Thread nD τ).loc cc0_scratch7) ↦[slotSet s]{q} f
def qs (c : Dev nD) (s : ℕ) (f : S3x1024x512.Idx → BitVec 8) : sProp 𝕄 :=
  ((c : Thread nD τ).loc cc0_scratch2) ↦[slotSet s]{fullShare} f
def qr (c : Dev nD) (s : ℕ) (f : S4x1024x512.Idx → BitVec 8) : sProp 𝕄 :=
  ((c : Thread nD τ).loc cc0_scratch3) ↦[slotSet s]{fullShare} f
def ad (c : Dev nD) (s : ℕ) (f : S4x8x128.Idx → F .f32) : sProp 𝕄 :=
  ((c : Thread nD τ).loc cc0_scratch13) ↦[slotSet s]{fullShare} f
def asr (c : Dev nD) (q : PosShare TreeShare) (f : S8x128.Idx → F .f32) : sProp 𝕄 :=
  ((c : Thread nD τ).loc cc0_scratch12) ↦{q} f

/-- Device `c`'s slots for device `s`'s maximum and tile, at any contents. -/
def inbox (c s : Dev nD) : sProp 𝕄 := iprop((∃ f, ad (F := F) c s.val f) ∗ (∃ f, qr (F := F) c s.val f))

instance (c : Dev nD) (s : ℕ) (q : PosShare TreeShare) (f) : BI.Storable (upEmb : UEmb _ 𝕄) (cw (F := F) c s q f) := by unfold cw; infer_instance
instance (c : Dev nD) (s : ℕ) (q : PosShare TreeShare) (f) : BI.Storable (upEmb : UEmb _ 𝕄) (cc (F := F) c s q f) := by unfold cc; infer_instance
instance (c : Dev nD) (s : ℕ) (f) : BI.Storable (upEmb : UEmb _ 𝕄) (qs (F := F) c s f) := by unfold qs; infer_instance
instance (c : Dev nD) (s : ℕ) (f) : BI.Storable (upEmb : UEmb _ 𝕄) (qr (F := F) c s f) := by unfold qr; infer_instance
instance (c : Dev nD) (s : ℕ) (f) : BI.Storable (upEmb : UEmb _ 𝕄) (ad (F := F) c s f) := by unfold ad; infer_instance
instance (c : Dev nD) (q : PosShare TreeShare) (f) : BI.Storable (upEmb : UEmb _ 𝕄) (asr (F := F) c q f) := by unfold asr; infer_instance
instance (c s : Dev nD) : BI.Storable (upEmb : UEmb _ 𝕄) (inbox (F := F) c s) := by unfold inbox; infer_instance

/-- The shares of the maximum's block that the three sends read, and of a ring slot that a hop reads. -/
def shA (j : ℕ) : PosShare TreeShare :=
  if j = 0 then fullShare.left else if j = 1 then fullShare.right.left else fullShare.right.right
abbrev shH : PosShare TreeShare := fullShare.left

/-- The device a number names. -/
def dN (s : ℕ) : Dev nD := ⟨s % 4, Nat.mod_lt _ (by decide)⟩
theorem dN_val (c : Dev nD) : dN c.val = c := Fin.ext (Nat.mod_eq_of_lt c.isLt)

section
variable (X : Dev nD → Vec F S1024x4096 .bf16) (W : Dev nD → Vec F S4096x512 .bf16)

/-! ## What each duty hands over -/

/-- At device `c`'s barrier: from its right neighbour (`true`) and from its left one (`false`). -/
def barPay (c : Dev nD) (r : ℕ) (d : Bool) : sProp 𝕄 := match r, d with
  | 0, true => iprop((∃ f, cw (F := F) (dv c 1) 1 fullShare f) ∗ inbox (dv c 1) c)
  | 0, false => iprop((∃ f, cc (F := F) (dv c 3) 1 fullShare f) ∗ inbox (dv c 3) c ∗ inbox (dv c 3) (dv c 1))
  | 1, true => iprop(∃ f, cw (F := F) (dv c 1) 0 fullShare f)
  | 1, false => iprop((∃ f, cc (F := F) (dv c 3) 0 fullShare f) ∗ inbox (dv c 2) c)
  | 2, true => iprop((∃ f, cw (F := F) (dv c 1) 1 fullShare f) ∗ reached ER (cell (dv c 1) 4) 1)
  | 2, false => iprop((∃ f, cc (F := F) (dv c 3) 1 fullShare f) ∗ reached ER (cell (dv c 3) 8) 1)
  | _, _ => iprop(emp)

/-- At the rings' cells. -/
def ringPay (c : Dev nD) (k r : ℕ) : sProp 𝕄 := match k, r with
  | 1, 0 => cw c 0 shH (spread (wL W c))
  | 1, 1 => cw c 0 shH (spread (wL W (dv c 2)))
  | 2, 0 => cw c 1 shH (spread (wL W (dv c 3)))
  | 3, 0 => iprop(cw c 0 fullShare (spread (wL W (dv c 2))) ∗ reached ER (cell (dv c 3) 0) 2)
  | 4, 0 => iprop(cw c 1 fullShare (spread (wL W (dv c 3))) ∗ reached ER (cell (dv c 3) 0) 1)
  | 4, 1 => cw c 1 fullShare (spread (wL W (dv c 1)))
  | 5, 0 => cc c 0 shH (spread (wR W c))
  | 5, 1 => cc c 0 shH (spread (wR W (dv c 2)))
  | 6, 0 => cc c 1 shH (spread (wR W (dv c 1)))
  | 7, 0 => iprop(cc c 0 fullShare (spread (wR W (dv c 2))) ∗ reached ER (cell (dv c 1) 0) 2)
  | 8, 0 => iprop(cc c 1 fullShare (spread (wR W (dv c 1))) ∗ reached ER (cell (dv c 1) 0) 1)
  | 8, 1 => cc c 1 fullShare (spread (wR W (dv c 3)))
  | _, _ => iprop(emp)

def pay (c : Dev nD) (k : Fin 23) (r : ℕ) (d : Bool) : sProp 𝕄 :=
  if k.val = 0 then barPay c r d
  else if k.val < 9 then ringPay W c k.val r
  else if k.val < 12 then qs c (k.val - 9) (spread (qt X W c (dv c (k.val - 8))))
  else if k.val < 16 then qr c (k.val - 12) (spread (qt X W (dN (k.val - 12)) c))
  else if k.val < 19 then asr c (shA (k.val - 16)) (fun _ => m3 X W c)
  else ad c (k.val - 19) (spread (am X W (dN (k.val - 19))))

instance barPay_storable (c : Dev nD) (r : ℕ) (d : Bool) : BI.Storable (upEmb : UEmb _ 𝕄) (barPay (F := F) c r d) := by
  unfold barPay; split <;> infer_instance
instance ringPay_storable (c : Dev nD) (k r : ℕ) : BI.Storable (upEmb : UEmb _ 𝕄) (ringPay W c k r) := by
  unfold ringPay; split <;> infer_instance
instance pay_storable (c : Dev nD) (k : Fin 23) (r : ℕ) (d : Bool) : BI.Storable (upEmb : UEmb _ 𝕄) (pay X W c k r d) := by
  unfold pay; (repeat' split) <;> infer_instance

/-- The schedule of every cell. -/
def rd : Rounds.Schedule (GSem nD τ sig) Bool 𝕄 where
  duties g r := match kindOf g.2 with | some k => dut g.1.1 k r | none => ∅
  unitless _ := False
  amount g _ _ := match kindOf g.2 with | some k => amt k | none => 1
  payload g r d := match kindOf g.2 with | some k => pay X W g.1.1 k r d | none => iprop(emp)
  amount_pos g _ _ _ := by
    split
    · exact amt_pos _
    · exact Nat.one_pos

instance rd_storable (g : GSem nD τ sig) (r : ℕ) (d : Bool) : BI.Storable (upEmb : UEmb _ 𝕄) ((rd X W).payload g r d) := by
  show BI.Storable upEmb (match kindOf g.2 with | some k => pay X W g.1.1 k r d | none => iprop(emp))
  split <;> infer_instance

theorem duties_cell (c : Dev nD) (k : Fin 23) (r : ℕ) : (rd X W).duties (cell c k) r = dut c k r := by
  show (match kindOf (cell c k).2 with | some k => dut (cell c k).1.1 k r | none => ∅) = _
  rw [kindOf_cell]; rfl
theorem amount_cell (c : Dev nD) (k : Fin 23) (r : ℕ) (d : Bool) : (rd X W).amount (cell c k) r d = amt k := by
  show (match kindOf (cell c k).2 with | some k => amt k | none => 1) = _
  rw [kindOf_cell]
theorem payload_cell (c : Dev nD) (k : Fin 23) (r : ℕ) (d : Bool) : (rd X W).payload (cell c k) r d = pay X W c k r d := by
  show (match kindOf (cell c k).2 with | some k => pay X W (cell c k).1.1 k r d | none => iprop(emp)) = _
  rw [kindOf_cell]; rfl
theorem expect_cell (c : Dev nD) (k : Fin 23) (r : ℕ) : (rd X W).expect (cell c k) r = (dut c k r).card * amt k := by
  unfold Schedule.expect Schedule.amountOf
  rw [duties_cell, Finset.sum_congr rfl fun d _ => amount_cell X W c k r d, Finset.sum_const, smul_eq_mul]

theorem pay_tR (c s : Dev nD) (d : Bool) : pay X W c (tR s) 0 d = qr c s.val (spread (qt X W s c)) := by
  have hs : s.val < 4 := s.isLt
  have hv : (tR s).val = 12 + s.val := rfl
  unfold pay
  rw [if_neg (by omega), if_neg (by omega), if_neg (by omega), if_pos (by omega), hv, Nat.add_sub_cancel_left, dN_val]
theorem pay_aR (c s : Dev nD) (d : Bool) : pay X W c (aR s) 0 d = ad c s.val (spread (am X W s)) := by
  have hs : s.val < 4 := s.isLt
  have hv : (aR s).val = 19 + s.val := rfl
  unfold pay
  rw [if_neg (by omega), if_neg (by omega), if_neg (by omega), if_neg (by omega), if_neg (by omega), hv, Nat.add_sub_cancel_left, dN_val]

/-! ## The records every device keeps -/

/-- The cells' invariants, that every cell's round 0 is reached, and the levels. -/
def records (K : Dev nD × Fin 23 → ℕ) : sProp 𝕄 :=
  iprop((bigSep Finset.univ fun ck : Dev nD × Fin 23 => cellInv ER (rd X W) (K ck) (cell ck.1 ck.2))
    ∗ (bigSep Finset.univ fun ck : Dev nD × Fin 23 => reached ER (cell ck.1 ck.2) 0) ∗ levAts L lv)

instance records_persistent (K : Dev nD × Fin 23 → ℕ) : BI.Persistent (records X W K) := by unfold records; infer_instance

theorem records_inv (K : Dev nD × Fin 23 → ℕ) (c : Dev nD) (k : Fin 23) :
    records X W K ⊢ cellInv ER (rd X W) (K (c, k)) (cell c k) := by
  have h : (bigSep Finset.univ fun ck : Dev nD × Fin 23 => cellInv ER (rd X W) (K ck) (cell ck.1 ck.2))
      ⊢ cellInv ER (rd X W) (K (c, k)) (cell c k) := bigSep_elim (Finset.mem_univ ((c, k) : Dev nD × Fin 23))
  unfold records
  iintro ⟨H, -, -⟩
  iapply h $$ H
theorem records_reached (K : Dev nD × Fin 23 → ℕ) (c : Dev nD) (k : Fin 23) :
    records X W K ⊢ reached ER (cell c k) 0 := by
  have h : (bigSep Finset.univ fun ck : Dev nD × Fin 23 => (reached ER (cell ck.1 ck.2) 0 : sProp 𝕄))
      ⊢ reached ER (cell c k) 0 := bigSep_elim (Finset.mem_univ ((c, k) : Dev nD × Fin 23))
  unfold records
  iintro ⟨-, H, -⟩
  iapply h $$ H
theorem records_levels (K : Dev nD × Fin 23 → ℕ) : records X W K ⊢ levAts L lv := by
  unfold records
  iintro ⟨-, -, H⟩
  iexact H

/-- What device `c` owes after `i` payments, whatever its waits so far. -/
def ow (c : Dev nD) (i : ℕ) : sProp 𝕄 := iprop(∃ Wt, owes (c : Thread nD τ) (Oc c i) Wt)

end

end Cert.RingQuant

end
-- ==== Proof.Steps.lean ====
/-
One rule per kind of effect the kernel has, at the protocol of `Plan`: a wait, a signal, a copy of each kind, and the
loads and stores of slots, tiles and output rows. Every rule takes the records every device keeps and moves the device
on by what the effect pays or collects.
-/
module

public import proofs.«01_k».proof.Proof.Plan

@[expose] public section

noncomputable section

namespace Cert.RingQuant

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

variable (X : Dev nD → Vec F S1024x4096 .bf16) (W : Dev nD → Vec F S4096x512 .bf16)
variable (K : Dev nD × Fin 23 → ℕ) (c : Dev nD)

/-! ## Waits -/

/-- A wait for the whole of round `r` of the device's own cell `k`, after `i` payments. -/
theorem wait_round (k : Fin 23) (r i : ℕ) {w : TpuEff nD τ sig (Elt F) Λ₀ .tc PUnit} {sm : SemLoc sig} {n : ℕ}
    (hw : ∀ K' : PUnit → sProp 𝕄, wpE (defs₀ (F := F)) 𝒱₀ (c : Thread nD τ) none Set.univ w K' = waitSpec (c : Thread nD τ) Set.univ sm n K')
    (hs : sm = csem k) (hn : n = (dut c k r).card * amt k) (hr : r < 3) (hl : lvOK c k r i = true)
    {α : Type} {Q : α → sProp 𝕄}
    {kk : PUnit → Prog (TpuEff nD τ sig (Elt F) Λ₀ .tc) α} :
    iprop(records X W K ∗ cred (tallyAt (cell c k) r n) ∗ ow (F := F) c i ∗ atPos ER (cell c k) r ∅ 0)
      ⊢ iprop(((ow (F := F) c i ∗ atPos ER (cell c k) (r + 1) ∅ 0 ∗ reached ER (cell c k) (r + 1)
            ∗ bigSep (dut c k r) (fun d => pay X W c k r d)) -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hs
  unfold ow
  iintro ⟨#Hrec, Hc, ⟨%Wt, Ho⟩, Ha⟩ Hk
  iapply (Rounds.wp_wait_rest_token 𝒱₀ ER (rd X W) (c : Thread nD τ) none (κ := K (c, k)) hw (Set.mem_univ _) r (O := Oc c i) (W := Wt)
      (R := r) (m := 0) (T := ∅) (by rw [Nat.zero_add, hn]; exact (expect_cell X W c k r).symm)) $$ [Hc Ho Ha]
  · isplitr; · iapply (records_inv X W K c k); iexact Hrec
    isplitl [Hc]; · iexact Hc
    isplitl [Ho]; · iexact Ho
    isplitr; · iapply (mayWait_cell c k r i hr hl); iapply (records_levels X W K); iexact Hrec
    iexact Ha
  iintro ⟨Ho, Ha, Hr, Hp⟩
  ihave Hp2 := (Entails.of_eq (show bigSep ((rd X W).duties ((c : Thread nD τ), csem k) r \ ∅) (fun d => (rd X W).payload ((c : Thread nD τ), csem k) r d)
    = bigSep (dut c k r) (fun d => pay X W c k r d) by
      rw [Finset.sdiff_empty]
      show bigSep ((rd X W).duties (cell c k) r) (fun d => (rd X W).payload (cell c k) r d) = _
      rw [duties_cell]; simp only [payload_cell])) $$ Hp
  iapply Hk
  isplitl [Ho]; · iexists _; iexact Ho
  isplitl [Ha]; · iexact Ha
  isplitl [Hr]; · iexact Hr
  iexact Hp2

/-- A wait on a copy's cell: one duty. -/
theorem wait_copy (k : Fin 23) (r i : ℕ) {P : sProp 𝕄} {w : TpuEff nD τ sig (Elt F) Λ₀ .tc PUnit} {sm : SemLoc sig} {n : ℕ}
    (hP : pay X W c k r false = P)
    (hw : ∀ K' : PUnit → sProp 𝕄, wpE (defs₀ (F := F)) 𝒱₀ (c : Thread nD τ) none Set.univ w K' = waitSpec (c : Thread nD τ) Set.univ sm n K')
    (hs : sm = csem k) (hn : n = amt k) (hd : dut c k r = {false}) (hr : r < 3) (hl : lvOK c k r i = true)
    {α : Type} {Q : α → sProp 𝕄}
    {kk : PUnit → Prog (TpuEff nD τ sig (Elt F) Λ₀ .tc) α} :
    records X W K ⊢ iprop(cred (tallyAt (cell c k) r (amt k)) -∗ ow (F := F) c i -∗ atPos ER (cell c k) r ∅ 0
      -∗ ((ow (F := F) c i ∗ atPos ER (cell c k) (r + 1) ∅ 0 ∗ reached ER (cell c k) (r + 1) ∗ P) -∗ wp frame (wpE (defs₀ (F := F)) 𝒱₀ (c : Thread nD τ) none) Set.univ (kk ⟨⟩) Q) -∗ wp frame (wpE (defs₀ (F := F)) 𝒱₀ (c : Thread nD τ) none) Set.univ (.op w kk) Q) := by
  subst hP
  iintro #Hrec Hc Ho Ha Hk
  iapply (wait_round X W K c k r i hw hs (by rw [hd, Finset.card_singleton, Nat.one_mul]; exact hn) hr hl) $$ [Hc Ho Ha]
  · isplitr; · iexact Hrec
    rw [hn]
    isplitl [Hc]; · iexact Hc
    isplitl [Ho] <;> iassumption
  iintro ⟨Ho, Ha, Hr, Hp⟩
  ihave Hp2 := (Entails.of_eq (show bigSep (dut c k r) (fun d => pay X W c k r d) = pay X W c k r false by
    rw [hd, bigSep_singleton])) $$ Hp
  iapply Hk
  isplitl [Ho]; · iexact Ho
  isplitl [Ha]; · iexact Ha
  isplitl [Hr] <;> iassumption

/-- A wait on the device's own barrier: both neighbours' payloads, and that the next round is reached. -/
theorem wait_bar (r i : ℕ) {PL PR : sProp 𝕄} (hL : barPay (F := F) c r false = PL) (hR : barPay (F := F) c r true = PR) {n : ℕ} (hn : n = 2) (hr : r < 3) (hl : lvOK c 0 r i = true)
    {α : Type} {Q : α → sProp 𝕄}
    {kk : PUnit → Prog (TpuEff nD τ sig (Elt F) Λ₀ .tc) α} :
    records X W K ⊢ iprop(cred (tallyAt (cell c 0) r 2) -∗ ow (F := F) c i -∗ atPos ER (cell c 0) r ∅ 0
      -∗ ((ow (F := F) c i ∗ atPos ER (cell c 0) (r + 1) ∅ 0 ∗ reached ER (cell c 0) (r + 1) ∗ PL ∗ PR) -∗ wp frame (wpE (defs₀ (F := F)) 𝒱₀ (c : Thread nD τ) none) Set.univ (kk ⟨⟩) Q)
      -∗ wp frame (wpE (defs₀ (F := F)) 𝒱₀ (c : Thread nD τ) none) Set.univ (.op (.semWait barS n) kk) Q) := by
  subst hn; subst hL; subst hR
  have hd : dut c 0 r = Finset.univ := by
    show (if r < 3 then _ else _) = _
    rw [if_pos hr]; rfl
  iintro #Hrec Hc Ho Ha Hk
  iapply (wait_round X W K c 0 r i (wpE_semWait_eq 𝒱₀ (c : Thread nD τ) none Set.univ) rfl (by rw [hd]; rfl) hr hl) $$ [Hc Ho Ha]
  · isplitr; · iexact Hrec
    isplitl [Hc]; · iexact Hc
    isplitl [Ho] <;> iassumption
  iintro ⟨Ho, Ha, Hr, Hp⟩
  ihave Hp2 := (Entails.of_eq (show bigSep (dut c 0 r) (fun d => pay X W c 0 r d) = iprop(barPay c r false ∗ barPay c r true) by
    rw [hd, bigSep_univ_eq_bigSepL [false, true] (by decide) (by decide), bigSepL_cons_cons, bigSepL_singleton]; rfl)) $$ Hp
  iapply Hk
  isplitl [Ho]; · iexact Ho
  isplitl [Ha]; · iexact Ha
  isplitl [Hr]; · iexact Hr
  iexact Hp2

/-! ## Signals -/

/-- A signal of device `d`'s barrier: one duty of round `r`. -/
theorem signal_step (i r : ℕ) (b : Bool) {n d : Dev nD} {k' : ℕ} (hnd : n = d) (hk : k' = 1) (hr : r < 3) {P : sProp 𝕄} (hP : barPay d r b = P)
    (hO : Oc c i = Oc c (i + 1) + tallyAt (cell d 0) r 1)
    {α : Type} {Q : α → sProp 𝕄}
    {kk : PUnit → Prog (TpuEff nD τ sig (Elt F) Λ₀ .tc) α} :
    records X W K ⊢ iprop(ow (F := F) c i -∗ dutyTok ER (cell d 0) r b -∗ reached ER (cell d 0) r -∗ P
      -∗ (ow (F := F) c (i + 1) -∗ wp frame (wpE (defs₀ (F := F)) 𝒱₀ (c : Thread nD τ) none) Set.univ (kk ⟨⟩) Q) -∗ wp frame (wpE (defs₀ (F := F)) 𝒱₀ (c : Thread nD τ) none) Set.univ (.op (.semSignal (Dev.tc n : Thread nD τ) barS k') kk) Q) := by
  subst hnd; subst hk; subst hP
  have hd : dut n 0 r = Finset.univ := by
    show (if r < 3 then _ else _) = _
    rw [if_pos hr]; rfl
  unfold ow
  iintro #Hrec ⟨%Wt, Ho⟩ Ht #Hr Hp Hk
  iapply (Rounds.wp_signal 𝒱₀ ER (rd X W) (c : Thread nD τ) none (dst := (n : Thread nD τ)) (κ := K (n, 0)) (r := r) (d := b)
      (show b ∈ (rd X W).duties (cell n 0) r by rw [duties_cell, hd]; exact Finset.mem_univ _) (amount_cell X W n 0 r b) r (Oc c (i + 1)) hO)
    $$ [Ho Ht Hp]
  · isplitr; · iapply (records_inv X W K n 0); iexact Hrec
    isplitl [Ho]; · iexact Ho
    isplitl [Ht]; · iexact Ht
    isplitl [Hp]
    · iapply (show barPay n r b ⊢ (rd X W).payload ((n : Thread nD τ), SemLoc.reg barS) r b from Entails.of_eq (payload_cell X W n 0 r b).symm); iexact Hp
    iexact Hr
  iintro Ho
  iapply Hk
  iexists _; iexact Ho

/-! ## Copies -/

/-- A copy to device `d`, paying one duty of its own send cell `kS` and one of `d`'s receive cell `kR`. -/
theorem send_step (kS kR : Fin 23) (rS rR i : ℕ) {n d : Dev nD} (hnd : n = d) {sp sp' : Space} {s : Shape} {e : EltTy}
    {src : Memref sig .tc sp s e} {dst : Memref sig .tc sp' s e} {hsc : dst.view.ref.isScScratch = false} {sS sem : SemLoc sig}
    {hsrc : src.view.WordExact} {hdst : dst.view.WordExact}
    {hsem : DmaTarget.Typed sp sem (.remote (Dev.tc n : Thread nD τ) dst sS hsc)}
    (hS : sS = csem kS) (hR : sem = csem kR) (hdS : dut c kS rS = {false}) (hdR : dut d kR rR = {false})
    (hN : dst.view.amount sem = amt kR) (hNN : amt kS = amt kR)
    (hO : Oc c i = Oc c (i + 1) + tallyAt (cell d kR) rR (amt kR))
    {q : PosShare TreeShare} {fs : Buf (Elt F) (src.view.loc (c : Thread nD τ))} {fd : Buf (Elt F) (dst.view.loc (d : Thread nD τ))} {Fr : sProp 𝕄}
    (hpS : (src.view.loc (c : Thread nD τ) ↦[src.view.set]{q} fs) ⊢ pay X W c kS rS false)
    (hpR : iprop((dst.view.loc (d : Thread nD τ) ↦[dst.view.set]{fullShare} (dst.view.write (Elt F) fd (src.view.read (Elt F) fs) Finset.univ)) ∗ Fr)
      ⊢ pay X W d kR rR false)
    {α : Type} {Q : α → sProp 𝕄}
    {kk : PUnit → Prog (TpuEff nD τ sig (Elt F) Λ₀ .tc) α} :
    records X W K ⊢ iprop((src.view.loc (c : Thread nD τ) ↦[src.view.set]{q} fs) -∗ (dst.view.loc (d : Thread nD τ) ↦[dst.view.set]{fullShare} fd) -∗ Fr
      -∗ ow (F := F) c i -∗ dutyTok ER (cell c kS) rS false -∗ reached ER (cell c kS) rS
      -∗ dutyTok ER (cell d kR) rR false -∗ reached ER (cell d kR) rR
      -∗ ((cred (tallyAt (cell c kS) rS (amt kS)) ∗ ow (F := F) c (i + 1)) -∗ wp frame (wpE (defs₀ (F := F)) 𝒱₀ (c : Thread nD τ) none) Set.univ (kk ⟨⟩) Q)
      -∗ wp frame (wpE (defs₀ (F := F)) 𝒱₀ (c : Thread nD τ) none) Set.univ (.op (.enqueueDma src (.remote (Dev.tc n : Thread nD τ) dst sS hsc) sem hsrc hdst hsem) kk) Q) := by
  subst hnd; subst hS; subst hR
  unfold ow
  iintro #Hrec Hs Hd Hf ⟨%Wt, Ho⟩ Ht1 #Hr1 Ht2 #Hr2 Hk
  rw [hNN]
  iapply (Rounds.wp_send_pointsTo_with 𝒱₀ ER (rd X W) (c : Thread nD τ) none (κ₁ := K (c, kS)) (κ₂ := K (n, kR)) (F := Fr)
      (r₁ := rS) (r₂ := rR) (d₁ := false) (d₂ := false) (fs := fs) (fd := fd) (q := q)
      (show false ∈ (rd X W).duties (cell c kS) rS by rw [duties_cell, hdS]; exact Finset.mem_singleton_self _)
      (show false ∈ (rd X W).duties (cell n kR) rR by rw [duties_cell, hdR]; exact Finset.mem_singleton_self _)
      rR rS (amt kR) hN ((amount_cell X W c kS rS false).trans hNN) (amount_cell X W n kR rR false) (Oc c (i + 1)) hO (W := Wt)
      (hpS.trans (Entails.of_eq (payload_cell X W c kS rS false).symm))
      (hpR.trans (Entails.of_eq (payload_cell X W n kR rR false).symm))) $$ [Hs Hd Hf Ho Ht1 Ht2]
  · isplitr; · iapply (records_inv X W K c kS); iexact Hrec
    isplitr; · iapply (records_inv X W K n kR); iexact Hrec
    isplitl [Hs]; · iexact Hs
    isplitl [Hd Hf]
    · isplitl [Hd] <;> iassumption
    isplitl [Ho]; · iexact Ho
    isplitl [Ht1]; · iexact Ht1
    isplitr; · iexact Hr1
    isplitl [Ht2]; · iexact Ht2
    iexact Hr2
  iintro ⟨Hc, Ho⟩
  iapply Hk
  isplitl [Hc]; · iexact Hc
  iexists _; iexact Ho

/-- A hop of the clockwise ring, from slot `s` to slot `s'` of the neighbour `d`. -/
theorem send_cw (kS kR : Fin 23) (rS rR i s s' : ℕ) (w : Vec F S1x4096x256 .bf16) {n d : Dev nD} (hnd : n = d) {off off' : Fin 3 → ℕ}
    (h : off = ![s, 0, 0]) (ib : inbW off) (h' : off' = ![s', 0, 0]) (ib' : inbW off')
    {hsc : (slW mCw off' ib').view.ref.isScScratch = false} {sS sem : SemLoc sig}
    {hsrc : (slW mCw off ib).view.WordExact} {hdst : (slW mCw off' ib').view.WordExact}
    {hsem : DmaTarget.Typed _ sem (.remote (Dev.tc n : Thread nD τ) (slW mCw off' ib') sS hsc)}
    (hS : sS = csem kS) (hR : sem = csem kR) (hdS : dut c kS rS = {false}) (hdR : dut d kR rR = {false})
    (hN : (slW mCw off' ib').view.amount sem = amt kR) (hNN : amt kS = amt kR)
    (hO : Oc c i = Oc c (i + 1) + tallyAt (cell d kR) rR (amt kR)) {Fr : sProp 𝕄}
    (hpS : pay X W c kS rS false = cw c s shH (spread w))
    (hpR : iprop(cw d s' fullShare (spread w) ∗ Fr) ⊢ pay X W d kR rR false)
    {α : Type} {Q : α → sProp 𝕄}
    {kk : PUnit → Prog (TpuEff nD τ sig (Elt F) Λ₀ .tc) α} :
    records X W K ⊢ iprop(cw c s shH (spread w) -∗ (∃ f, cw (F := F) d s' fullShare f) -∗ Fr
      -∗ ow (F := F) c i -∗ dutyTok ER (cell c kS) rS false -∗ reached ER (cell c kS) rS
      -∗ dutyTok ER (cell d kR) rR false -∗ reached ER (cell d kR) rR
      -∗ ((cred (tallyAt (cell c kS) rS (amt kS)) ∗ ow (F := F) c (i + 1)) -∗ wp frame (wpE (defs₀ (F := F)) 𝒱₀ (c : Thread nD τ) none) Set.univ (kk ⟨⟩) Q)
      -∗ wp frame (wpE (defs₀ (F := F)) 𝒱₀ (c : Thread nD τ) none) Set.univ (.op (.enqueueDma (slW mCw off ib) (.remote (Dev.tc n : Thread nD τ) (slW mCw off' ib') sS hsc) sem hsrc hdst hsem) kk) Q) := by
  iintro #Hrec Hs ⟨%fd, Hd⟩ Hf Ho Ht1 Hr1 Ht2 Hr2 Hk
  unfold cw
  iapply (send_step X W K c kS kR rS rR i hnd (src := slW mCw off ib) (dst := slW mCw off' ib') (q := shH) (fs := spread w) (fd := fd) (Fr := Fr)
    hS hR hdS hdR hN hNN hO
    (by rw [set_cw h ib, hpS]; exact BI.Entails.refl _)
    (by
      rw [set_cw h' ib', pointsTo_congr (copy_cw h ib h' ib' fd w)]
      exact hpR)) $$ Hrec [Hs] [Hd] Hf Ho Ht1 Hr1 Ht2 Hr2 Hk
  · rw [set_cw h ib]; iexact Hs
  · rw [set_cw h' ib']; iexact Hd

/-- A hop of the counter-clockwise ring, from slot `s` to slot `s'` of the neighbour `d`. -/
theorem send_cc (kS kR : Fin 23) (rS rR i s s' : ℕ) (w : Vec F S1x4096x256 .bf16) {n d : Dev nD} (hnd : n = d) {off off' : Fin 3 → ℕ}
    (h : off = ![s, 0, 0]) (ib : inbW off) (h' : off' = ![s', 0, 0]) (ib' : inbW off')
    {hsc : (slW mCc off' ib').view.ref.isScScratch = false} {sS sem : SemLoc sig}
    {hsrc : (slW mCc off ib).view.WordExact} {hdst : (slW mCc off' ib').view.WordExact}
    {hsem : DmaTarget.Typed _ sem (.remote (Dev.tc n : Thread nD τ) (slW mCc off' ib') sS hsc)}
    (hS : sS = csem kS) (hR : sem = csem kR) (hdS : dut c kS rS = {false}) (hdR : dut d kR rR = {false})
    (hN : (slW mCc off' ib').view.amount sem = amt kR) (hNN : amt kS = amt kR)
    (hO : Oc c i = Oc c (i + 1) + tallyAt (cell d kR) rR (amt kR)) {Fr : sProp 𝕄}
    (hpS : pay X W c kS rS false = cc c s shH (spread w))
    (hpR : iprop(cc d s' fullShare (spread w) ∗ Fr) ⊢ pay X W d kR rR false)
    {α : Type} {Q : α → sProp 𝕄}
    {kk : PUnit → Prog (TpuEff nD τ sig (Elt F) Λ₀ .tc) α} :
    records X W K ⊢ iprop(cc c s shH (spread w) -∗ (∃ f, cc (F := F) d s' fullShare f) -∗ Fr
      -∗ ow (F := F) c i -∗ dutyTok ER (cell c kS) rS false -∗ reached ER (cell c kS) rS
      -∗ dutyTok ER (cell d kR) rR false -∗ reached ER (cell d kR) rR
      -∗ ((cred (tallyAt (cell c kS) rS (amt kS)) ∗ ow (F := F) c (i + 1)) -∗ wp frame (wpE (defs₀ (F := F)) 𝒱₀ (c : Thread nD τ) none) Set.univ (kk ⟨⟩) Q)
      -∗ wp frame (wpE (defs₀ (F := F)) 𝒱₀ (c : Thread nD τ) none) Set.univ (.op (.enqueueDma (slW mCc off ib) (.remote (Dev.tc n : Thread nD τ) (slW mCc off' ib') sS hsc) sem hsrc hdst hsem) kk) Q) := by
  iintro #Hrec Hs ⟨%fd, Hd⟩ Hf Ho Ht1 Hr1 Ht2 Hr2 Hk
  unfold cc
  iapply (send_step X W K c kS kR rS rR i hnd (src := slW mCc off ib) (dst := slW mCc off' ib') (q := shH) (fs := spread w) (fd := fd) (Fr := Fr)
    hS hR hdS hdR hN hNN hO
    (by rw [set_cc h ib, hpS]; exact BI.Entails.refl _)
    (by
      rw [set_cc h' ib', pointsTo_congr (copy_cc h ib h' ib' fd w)]
      exact hpR)) $$ Hrec [Hs] [Hd] Hf Ho Ht1 Hr1 Ht2 Hr2 Hk
  · rw [set_cc h ib]; iexact Hs
  · rw [set_cc h' ib']; iexact Hd

/-- A copy of a quantised tile, from slot `s` to device `d`'s slot for this device. -/
theorem send_q (kS : Fin 23) (i s : ℕ) {n d : Dev nD} (hnd : n = d) (hcd : c ≠ d) {off off' : Fin 3 → ℕ}
    (h : off = ![s, 0, 0]) (ib : inbQ off) (h' : off' = ![c.val, 0, 0]) (ib' : inbY off')
    {hsc : (slT mQr off' ib').view.ref.isScScratch = false} {sS sem : SemLoc sig}
    {hsrc : (slQ mQs off ib).view.WordExact} {hdst : (slT mQr off' ib').view.WordExact}
    {hsem : DmaTarget.Typed _ sem (.remote (Dev.tc n : Thread nD τ) (slT mQr off' ib') sS hsc)}
    (hS : sS = csem kS) (hR : sem = csem (tR c)) (hdS : dut c kS 0 = {false}) (hdR : dut d (tR c) 0 = {false})
    (hN : (slT mQr off' ib').view.amount sem = amt (tR c)) (hNN : amt kS = amt (tR c))
    (hO : Oc c i = Oc c (i + 1) + tallyAt (cell d (tR c)) 0 (amt (tR c)))
    (hpS : pay X W c kS 0 false = qs c s (spread (qt X W c d)))
    {α : Type} {Q : α → sProp 𝕄}
    {kk : PUnit → Prog (TpuEff nD τ sig (Elt F) Λ₀ .tc) α} :
    records X W K ⊢ iprop(qs c s (spread (qt X W c d)) -∗ (∃ f, qr (F := F) d c.val f)
      -∗ ow (F := F) c i -∗ dutyTok ER (cell c kS) 0 false -∗ dutyTok ER (cell d (tR c)) 0 false
      -∗ ((cred (tallyAt (cell c kS) 0 (amt kS)) ∗ ow (F := F) c (i + 1)) -∗ wp frame (wpE (defs₀ (F := F)) 𝒱₀ (c : Thread nD τ) none) Set.univ (kk ⟨⟩) Q)
      -∗ wp frame (wpE (defs₀ (F := F)) 𝒱₀ (c : Thread nD τ) none) Set.univ (.op (.enqueueDma (slQ mQs off ib) (.remote (Dev.tc n : Thread nD τ) (slT mQr off' ib') sS hsc) sem hsrc hdst hsem) kk) Q) := by
  iintro #Hrec Hs ⟨%fd, Hd⟩ Ho Ht1 Ht2 Hk
  unfold qs qr
  iapply (send_step X W K c kS (tR c) 0 0 i hnd (src := slQ mQs off ib) (dst := slT mQr off' ib') (q := fullShare) (fs := spread (qt X W c d)) (fd := fd) (Fr := iprop(emp))
    hS hR hdS hdR hN hNN hO
    (by rw [set_qs h ib, hpS]; exact BI.Entails.refl _)
    (by
      rw [set_qr h' ib', pointsTo_congr (copy_q h ib h' ib' fd (qt X W c d)), pay_tR]
      exact (sep_emp (PROP := sProp 𝕄)).1)) $$ Hrec [Hs] [Hd] [] Ho Ht1 [] Ht2 [] Hk
  · rw [set_qs h ib]; iexact Hs
  · rw [set_qr h' ib']; iexact Hd
  · iempintro
  · iapply (records_reached X W K c kS); iexact Hrec
  · iapply (records_reached X W K d (tR c)); iexact Hrec

/-- A copy of the maximum's block to device `d`'s slot for this device. -/
theorem send_a (kS : Fin 23) (i : ℕ) (q : PosShare TreeShare) {n d : Dev nD} (hnd : n = d) (hcd : c ≠ d) {off' : Fin 3 → ℕ}
    (h' : off' = ![c.val, 0, 0]) (ib' : inbA off')
    {hsc : (slA mAd off' ib').view.ref.isScScratch = false} {sS sem : SemLoc sig}
    {hsrc : mAs.view.WordExact} {hdst : (slA mAd off' ib').view.WordExact}
    {hsem : DmaTarget.Typed _ sem (.remote (Dev.tc n : Thread nD τ) (slA mAd off' ib') sS hsc)}
    (hS : sS = csem kS) (hR : sem = csem (aR c)) (hdS : dut c kS 0 = {false}) (hdR : dut d (aR c) 0 = {false})
    (hN : (slA mAd off' ib').view.amount sem = amt (aR c)) (hNN : amt kS = amt (aR c))
    (hO : Oc c i = Oc c (i + 1) + tallyAt (cell d (aR c)) 0 (amt (aR c)))
    (hpS : pay X W c kS 0 false = asr c q (fun _ => m3 X W c))
    {α : Type} {Q : α → sProp 𝕄}
    {kk : PUnit → Prog (TpuEff nD τ sig (Elt F) Λ₀ .tc) α} :
    records X W K ⊢ iprop(asr c q (fun _ => m3 X W c) -∗ (∃ f, ad (F := F) d c.val f)
      -∗ ow (F := F) c i -∗ dutyTok ER (cell c kS) 0 false -∗ dutyTok ER (cell d (aR c)) 0 false
      -∗ ((cred (tallyAt (cell c kS) 0 (amt kS)) ∗ ow (F := F) c (i + 1)) -∗ wp frame (wpE (defs₀ (F := F)) 𝒱₀ (c : Thread nD τ) none) Set.univ (kk ⟨⟩) Q)
      -∗ wp frame (wpE (defs₀ (F := F)) 𝒱₀ (c : Thread nD τ) none) Set.univ (.op (.enqueueDma mAs (.remote (Dev.tc n : Thread nD τ) (slA mAd off' ib') sS hsc) sem hsrc hdst hsem) kk) Q) := by
  iintro #Hrec Hs ⟨%fd, Hd⟩ Ho Ht1 Ht2 Hk
  unfold asr ad
  iapply (send_step X W K c kS (aR c) 0 0 i hnd (src := mAs) (dst := slA mAd off' ib') (q := q) (fs := fun _ => m3 X W c) (fd := fd) (Fr := iprop(emp))
    hS hR hdS hdR hN hNN hO
    (by rw [View.set_whole, hpS]; exact BI.Entails.refl _)
    (by
      rw [pointsTo_congr (copy_a ib' fd (m3 X W c)), set_ad h' ib', pay_aR]
      exact (sep_emp (PROP := sProp 𝕄)).1)) $$ Hrec [Hs] [Hd] [] Ho Ht1 [] Ht2 [] Hk
  · rw [View.set_whole]; iexact Hs
  · rw [set_ad h' ib']; iexact Hd
  · iempintro
  · iapply (records_reached X W K c kS); iexact Hrec
  · iapply (records_reached X W K d (aR c)); iexact Hrec

/-! ## Loads and stores of ring slots -/

theorem load_cw_step {s : ℕ} {q : PosShare TreeShare} {off : Fin 3 → ℕ} (h : off = ![s, 0, 0]) (ib : inbW off) (w : Vec F S1x4096x256 .bf16)
    {hl : mCw.view.LoadsAt (Rect.unit (s := S2x4096x256) off S1x4096x256.size ib).toLoadRect}
    {α : Type} {Q : α → sProp 𝕄}
    {kk : Vec F S1x4096x256 .bf16 → Prog (TpuEff nD τ sig (Elt F) Λ₀ .tc) α} :
    cw c s q (spread w) ⊢ iprop((cw c s q (spread w) -∗ wp frame (wpE (defs₀ (F := F)) 𝒱₀ (c : Thread nD τ) none) Set.univ (kk w) Q)
      -∗ wp frame (wpE (defs₀ (F := F)) 𝒱₀ (c : Thread nD τ) none) Set.univ (.op (.load mCw (Rect.unit (s := S2x4096x256) off S1x4096x256.size ib).toLoadRect hl) kk) Q) := by
  unfold cw
  have hw := wp_load (defs := defs₀ (F := F)) (Γ := PendingWaitsCtx.empty) 𝒱₀ (c : Thread nD τ) none Set.univ (m := mCw) (r := (Rect.unit (s := S2x4096x256) off S1x4096x256.size ib).toLoadRect)
    (hl := hl) (S := slotSet s) (q := q) (f := spread w) (k := kk) (Q := Q) (by
      exact (Finset.map_refl.trans (unit_slot h ib)).le)
  rw [load_cw h ib w] at hw
  exact hw

theorem peek_cw_step {s : ℕ} {off : Fin 3 → ℕ} (h : off = ![s, 0, 0]) (ib : inbW off)
    {hl : mCw.view.LoadsAt (Rect.unit (s := S2x4096x256) off S1x4096x256.size ib).toLoadRect}
    {α : Type} {Q : α → sProp 𝕄}
    {kk : Vec F S1x4096x256 .bf16 → Prog (TpuEff nD τ sig (Elt F) Λ₀ .tc) α} :
    iprop(∃ f, cw (F := F) c s fullShare f) ⊢ iprop((∀ w, (∃ f, cw (F := F) c s fullShare f) -∗ wp frame (wpE (defs₀ (F := F)) 𝒱₀ (c : Thread nD τ) none) Set.univ (kk w) Q)
      -∗ wp frame (wpE (defs₀ (F := F)) 𝒱₀ (c : Thread nD τ) none) Set.univ (.op (.load mCw (Rect.unit (s := S2x4096x256) off S1x4096x256.size ib).toLoadRect hl) kk) Q) := by
  iintro ⟨%f, H⟩ Hk
  unfold cw
  iapply (wp_load (defs := defs₀ (F := F)) 𝒱₀ (c : Thread nD τ) none Set.univ (m := mCw) (S := slotSet s) (q := fullShare) (by
      exact (Finset.map_refl.trans (unit_slot h ib)).le)) $$ H
  iintro H
  iapply Hk
  iexists f; iexact H

theorem store_cw_step {s : ℕ} {off : Fin 3 → ℕ} (h : off = ![s, 0, 0]) (ib : inbW off) (w : Vec F S1x4096x256 .bf16)
    {hx : (mCw.access (Rect.unit (s := S2x4096x256) off S1x4096x256.size ib)).Stores Finset.univ} {hm}
    {α : Type} {Q : α → sProp 𝕄}
    {kk : PUnit → Prog (TpuEff nD τ sig (Elt F) Λ₀ .tc) α} :
    iprop(∃ f, cw (F := F) c s fullShare f) ⊢ iprop((cw c s fullShare (spread w) -∗ wp frame (wpE (defs₀ (F := F)) 𝒱₀ (c : Thread nD τ) none) Set.univ (kk ⟨⟩) Q)
      -∗ wp frame (wpE (defs₀ (F := F)) 𝒱₀ (c : Thread nD τ) none) Set.univ (.op (.store mCw (Rect.unit (s := S2x4096x256) off S1x4096x256.size ib) w Finset.univ hx hm) kk) Q) := by
  iintro ⟨%f, H⟩ Hk
  unfold cw
  iapply (wp_store (defs := defs₀ (F := F)) 𝒱₀ (c : Thread nD τ) none Set.univ (m := mCw) (r := (Rect.unit (s := S2x4096x256) off S1x4096x256.size ib)) (Mk := Finset.univ) (S := slotSet s) (by
      rw [View.setOn_univ]
      show ((View.whole _).slice _).set ⊆ _
      rw [View.set_slice_whole, unit_slot h ib])) $$ H
  iintro H
  iapply Hk
  iapply (Entails.of_eq (pointsTo_congr (store_cw h ib f w))) $$ H

theorem load_cc_step {s : ℕ} {q : PosShare TreeShare} {off : Fin 3 → ℕ} (h : off = ![s, 0, 0]) (ib : inbW off) (w : Vec F S1x4096x256 .bf16)
    {hl : mCc.view.LoadsAt (Rect.unit (s := S2x4096x256) off S1x4096x256.size ib).toLoadRect}
    {α : Type} {Q : α → sProp 𝕄}
    {kk : Vec F S1x4096x256 .bf16 → Prog (TpuEff nD τ sig (Elt F) Λ₀ .tc) α} :
    cc c s q (spread w) ⊢ iprop((cc c s q (spread w) -∗ wp frame (wpE (defs₀ (F := F)) 𝒱₀ (c : Thread nD τ) none) Set.univ (kk w) Q)
      -∗ wp frame (wpE (defs₀ (F := F)) 𝒱₀ (c : Thread nD τ) none) Set.univ (.op (.load mCc (Rect.unit (s := S2x4096x256) off S1x4096x256.size ib).toLoadRect hl) kk) Q) := by
  unfold cc
  have hw := wp_load (defs := defs₀ (F := F)) (Γ := PendingWaitsCtx.empty) 𝒱₀ (c : Thread nD τ) none Set.univ (m := mCc) (r := (Rect.unit (s := S2x4096x256) off S1x4096x256.size ib).toLoadRect)
    (hl := hl) (S := slotSet s) (q := q) (f := spread w) (k := kk) (Q := Q) (by
      exact (Finset.map_refl.trans (unit_slot h ib)).le)
  rw [load_cc h ib w] at hw
  exact hw

theorem peek_cc_step {s : ℕ} {off : Fin 3 → ℕ} (h : off = ![s, 0, 0]) (ib : inbW off)
    {hl : mCc.view.LoadsAt (Rect.unit (s := S2x4096x256) off S1x4096x256.size ib).toLoadRect}
    {α : Type} {Q : α → sProp 𝕄}
    {kk : Vec F S1x4096x256 .bf16 → Prog (TpuEff nD τ sig (Elt F) Λ₀ .tc) α} :
    iprop(∃ f, cc (F := F) c s fullShare f) ⊢ iprop((∀ w, (∃ f, cc (F := F) c s fullShare f) -∗ wp frame (wpE (defs₀ (F := F)) 𝒱₀ (c : Thread nD τ) none) Set.univ (kk w) Q)
      -∗ wp frame (wpE (defs₀ (F := F)) 𝒱₀ (c : Thread nD τ) none) Set.univ (.op (.load mCc (Rect.unit (s := S2x4096x256) off S1x4096x256.size ib).toLoadRect hl) kk) Q) := by
  iintro ⟨%f, H⟩ Hk
  unfold cc
  iapply (wp_load (defs := defs₀ (F := F)) 𝒱₀ (c : Thread nD τ) none Set.univ (m := mCc) (S := slotSet s) (q := fullShare) (by
      exact (Finset.map_refl.trans (unit_slot h ib)).le)) $$ H
  iintro H
  iapply Hk
  iexists f; iexact H

theorem store_cc_step {s : ℕ} {off : Fin 3 → ℕ} (h : off = ![s, 0, 0]) (ib : inbW off) (w : Vec F S1x4096x256 .bf16)
    {hx : (mCc.access (Rect.unit (s := S2x4096x256) off S1x4096x256.size ib)).Stores Finset.univ} {hm}
    {α : Type} {Q : α → sProp 𝕄}
    {kk : PUnit → Prog (TpuEff nD τ sig (Elt F) Λ₀ .tc) α} :
    iprop(∃ f, cc (F := F) c s fullShare f) ⊢ iprop((cc c s fullShare (spread w) -∗ wp frame (wpE (defs₀ (F := F)) 𝒱₀ (c : Thread nD τ) none) Set.univ (kk ⟨⟩) Q)
      -∗ wp frame (wpE (defs₀ (F := F)) 𝒱₀ (c : Thread nD τ) none) Set.univ (.op (.store mCc (Rect.unit (s := S2x4096x256) off S1x4096x256.size ib) w Finset.univ hx hm) kk) Q) := by
  iintro ⟨%f, H⟩ Hk
  unfold cc
  iapply (wp_store (defs := defs₀ (F := F)) 𝒱₀ (c : Thread nD τ) none Set.univ (m := mCc) (r := (Rect.unit (s := S2x4096x256) off S1x4096x256.size ib)) (Mk := Finset.univ) (S := slotSet s) (by
      rw [View.setOn_univ]
      show ((View.whole _).slice _).set ⊆ _
      rw [View.set_slice_whole, unit_slot h ib])) $$ H
  iintro H
  iapply Hk
  iapply (Entails.of_eq (pointsTo_congr (store_cc h ib f w))) $$ H

/-! ## Loads and stores of the other buffers -/

/-- A buffer held whole. -/
def hold (c : Dev nD) (b : Ref sig .tc) (f : b.ty.Contents (Elt F)) : sProp 𝕄 := ((c : Thread nD τ).loc b) ↦{fullShare} f

/-- The product tiles' buffer, with `nL` left and `nR` right halves in place; the output with `n` blocks of rows. -/
def yb (nL nR : ℕ) : sProp 𝕄 := iprop(∃ f, ⌜YGood X W c nL nR f⌝ ∗ hold (F := F) c cc0_scratch1 f)
def ob (n : ℕ) : sProp 𝕄 := iprop(∃ f, ⌜OGood X W c n f⌝ ∗ hold (F := F) c cc0_stg2_0 f)

theorem load_hold_step {sp : CoreSpace} {s : Shape} {e : EltTy} (m : Memref sig .tc sp s e) (f : m.view.ref.ty.Contents (Elt F)) {r : LoadRect s} {hl : m.view.LoadsAt r}
    {α : Type} {Q : α → sProp 𝕄}
    {kk : (r.shape.Idx → Elt F e) → Prog (TpuEff nD τ sig (Elt F) Λ₀ .tc) α} :
    hold (F := F) c m.view.ref f ⊢ iprop((hold (F := F) c m.view.ref f -∗ wp frame (wpE (defs₀ (F := F)) 𝒱₀ (c : Thread nD τ) none) Set.univ (kk (m.view.readAt (Elt F) r f)) Q) -∗ wp frame (wpE (defs₀ (F := F)) 𝒱₀ (c : Thread nD τ) none) Set.univ (.op (.load m r hl) kk) Q) := by
  unfold hold
  exact wp_load (defs := defs₀ (F := F)) 𝒱₀ (c : Thread nD τ) none Set.univ (m := m) (Finset.subset_univ _)

theorem peek_y_step {nL nR : ℕ} {r : LoadRect S4x1024x512} {hl : mY.view.LoadsAt r}
    {α : Type} {Q : α → sProp 𝕄}
    {kk : (r.shape.Idx → Elt F .f32) → Prog (TpuEff nD τ sig (Elt F) Λ₀ .tc) α} :
    yb X W c nL nR ⊢ iprop((∀ w, yb X W c nL nR -∗ wp frame (wpE (defs₀ (F := F)) 𝒱₀ (c : Thread nD τ) none) Set.univ (kk w) Q) -∗ wp frame (wpE (defs₀ (F := F)) 𝒱₀ (c : Thread nD τ) none) Set.univ (.op (.load mY r hl) kk) Q) := by
  unfold yb
  iintro ⟨%f, %hf, H⟩ Hk
  iapply (load_hold_step c mY f) $$ H
  iintro H
  iapply Hk
  iexists f; isplitr; · (ipureintro; exact hf)
  iexact H

theorem peek_o_step {n : ℕ} {r : LoadRect S4096x512} {hl : mO.view.LoadsAt r}
    {α : Type} {Q : α → sProp 𝕄}
    {kk : (r.shape.Idx → Elt F .f32) → Prog (TpuEff nD τ sig (Elt F) Λ₀ .tc) α} :
    ob X W c n ⊢ iprop((∀ w, ob X W c n -∗ wp frame (wpE (defs₀ (F := F)) 𝒱₀ (c : Thread nD τ) none) Set.univ (kk w) Q) -∗ wp frame (wpE (defs₀ (F := F)) 𝒱₀ (c : Thread nD τ) none) Set.univ (.op (.load mO r hl) kk) Q) := by
  unfold ob
  iintro ⟨%f, %hf, H⟩ Hk
  iapply (load_hold_step c mO f) $$ H
  iintro H
  iapply Hk
  iexists f; isplitr; · (ipureintro; exact hf)
  iexact H

theorem store_y_left {nL nR : ℕ} (d : Dev nD) {off : Fin 3 → ℕ} (hd : d.val = (c.val + 4 - nL) % 4) (h : off = ![d.val, 0, 0]) (ib : inbH off)
    {w : Vec F S1x1024x256 .f32} (hw : w = yL X W c d)
    {hx : (mY.access (rH off ib)).Stores Finset.univ} {hm}
    {α : Type} {Q : α → sProp 𝕄}
    {kk : PUnit → Prog (TpuEff nD τ sig (Elt F) Λ₀ .tc) α} :
    yb X W c nL nR ⊢ iprop((yb X W c (nL + 1) nR -∗ wp frame (wpE (defs₀ (F := F)) 𝒱₀ (c : Thread nD τ) none) Set.univ (kk ⟨⟩) Q) -∗ wp frame (wpE (defs₀ (F := F)) 𝒱₀ (c : Thread nD τ) none) Set.univ (.op (.store mY (rH off ib) w Finset.univ hx hm) kk) Q) := by
  subst hw
  unfold yb
  iintro ⟨%f, %hf, H⟩ Hk
  unfold hold
  iapply (wp_store (defs := defs₀ (F := F)) 𝒱₀ (c : Thread nD τ) none Set.univ (m := mY) (r := rH off ib) (Mk := Finset.univ) (Finset.subset_univ _)) $$ H
  iintro H
  iapply Hk
  iexists _; isplitr
  · ipureintro; exact YGood_left X W hf hd h ib
  iexact H

theorem store_y_right {nL nR : ℕ} (d : Dev nD) {off : Fin 3 → ℕ} (hd : d.val = (c.val + nR) % 4) (h : off = ![d.val, 0, 256]) (ib : inbH off)
    {w : Vec F S1x1024x256 .f32} (hw : w = yR X W c d)
    {hx : (mY.access (rH off ib)).Stores Finset.univ} {hm}
    {α : Type} {Q : α → sProp 𝕄}
    {kk : PUnit → Prog (TpuEff nD τ sig (Elt F) Λ₀ .tc) α} :
    yb X W c nL nR ⊢ iprop((yb X W c nL (nR + 1) -∗ wp frame (wpE (defs₀ (F := F)) 𝒱₀ (c : Thread nD τ) none) Set.univ (kk ⟨⟩) Q) -∗ wp frame (wpE (defs₀ (F := F)) 𝒱₀ (c : Thread nD τ) none) Set.univ (.op (.store mY (rH off ib) w Finset.univ hx hm) kk) Q) := by
  subst hw
  unfold yb
  iintro ⟨%f, %hf, H⟩ Hk
  unfold hold
  iapply (wp_store (defs := defs₀ (F := F)) 𝒱₀ (c : Thread nD τ) none Set.univ (m := mY) (r := rH off ib) (Mk := Finset.univ) (Finset.subset_univ _)) $$ H
  iintro H
  iapply Hk
  iexists _; isplitr
  · ipureintro; exact YGood_right X W hf hd h ib
  iexact H

/-- A load of device `d`'s tile, all halves in place. -/
theorem load_tile_step (d : Dev nD) {off : Fin 3 → ℕ} (h : off = ![d.val, 0, 0]) (ib : inbY off)
    {hl : mY.view.LoadsAt (Rect.unit (s := S4x1024x512) off S1x1024x512.size ib).toLoadRect}
    {α : Type} {Q : α → sProp 𝕄}
    {kk : Vec F S1x1024x512 .f32 → Prog (TpuEff nD τ sig (Elt F) Λ₀ .tc) α} :
    yb X W c 4 4 ⊢ iprop((yb X W c 4 4 -∗ wp frame (wpE (defs₀ (F := F)) 𝒱₀ (c : Thread nD τ) none) Set.univ (kk (yt X W c d)) Q)
      -∗ wp frame (wpE (defs₀ (F := F)) 𝒱₀ (c : Thread nD τ) none) Set.univ (.op (.load mY (Rect.unit (s := S4x1024x512) off S1x1024x512.size ib).toLoadRect hl) kk) Q) := by
  unfold yb
  iintro ⟨%f, %hf, H⟩ Hk
  have hY := YGood_full X W hf
  subst hY
  have hw := load_hold_step (F := F) (Q := Q) c mY (Y X W c) (r := (Rect.unit (s := S4x1024x512) off S1x1024x512.size ib).toLoadRect) (hl := hl) (kk := kk)
  rw [load_Y X W c d h ib] at hw
  iapply hw $$ H
  iintro H
  iapply Hk
  iexists _; isplitr; · (ipureintro; exact hf)
  iexact H

theorem store_o_step {n : ℕ} (s : Dev nD) {off : Fin 2 → ℕ} (hs : s.val = (c.val + n) % 4) (h : off = ![1024 * s.val, 0]) (ib : inbO off)
    {w : Vec F S1024x512 .f32} (hw : w = ot X W c s)
    {hx : (mO.access (rO off ib)).Stores Finset.univ} {hm}
    {α : Type} {Q : α → sProp 𝕄}
    {kk : PUnit → Prog (TpuEff nD τ sig (Elt F) Λ₀ .tc) α} :
    ob X W c n ⊢ iprop((ob X W c (n + 1) -∗ wp frame (wpE (defs₀ (F := F)) 𝒱₀ (c : Thread nD τ) none) Set.univ (kk ⟨⟩) Q) -∗ wp frame (wpE (defs₀ (F := F)) 𝒱₀ (c : Thread nD τ) none) Set.univ (.op (.store mO (rO off ib) w Finset.univ hx hm) kk) Q) := by
  unfold ob
  iintro ⟨%f, %hf, H⟩ Hk
  unfold hold
  iapply (wp_store (defs := defs₀ (F := F)) 𝒱₀ (c : Thread nD τ) none Set.univ (m := mO) (r := rO off ib) (Mk := Finset.univ) (Finset.subset_univ _)) $$ H
  iintro H
  iapply Hk
  iexists _; isplitr
  · ipureintro; exact OGood_store X W hf hs h ib w hw
  iexact H

theorem peek_qs_step {s : ℕ} {off : Fin 3 → ℕ} (h : off = ![s, 0, 0]) (ib : inbQ off)
    {hl : mQs.view.LoadsAt (Rect.unit (s := S3x1024x512) off S1x1024x512.size ib).toLoadRect}
    {α : Type} {Q : α → sProp 𝕄}
    {kk : Vec F S1x1024x512 .i8 → Prog (TpuEff nD τ sig (Elt F) Λ₀ .tc) α} :
    iprop(∃ f, qs (F := F) c s f) ⊢ iprop((∀ w, (∃ f, qs (F := F) c s f) -∗ wp frame (wpE (defs₀ (F := F)) 𝒱₀ (c : Thread nD τ) none) Set.univ (kk w) Q)
      -∗ wp frame (wpE (defs₀ (F := F)) 𝒱₀ (c : Thread nD τ) none) Set.univ (.op (.load mQs (Rect.unit (s := S3x1024x512) off S1x1024x512.size ib).toLoadRect hl) kk) Q) := by
  iintro ⟨%f, H⟩ Hk
  unfold qs
  iapply (wp_load (defs := defs₀ (F := F)) 𝒱₀ (c : Thread nD τ) none Set.univ (m := mQs) (S := slotSet s) (q := fullShare) (by
      exact (Finset.map_refl.trans (unit_slot h ib)).le)) $$ H
  iintro H
  iapply Hk
  iexists f; iexact H

theorem store_qs_step {s : ℕ} {off : Fin 3 → ℕ} (h : off = ![s, 0, 0]) (ib : inbQ off) (w : Vec F S1x1024x512 .i8)
    {hx : (mQs.access (Rect.unit (s := S3x1024x512) off S1x1024x512.size ib)).Stores Finset.univ} {hm}
    {α : Type} {Q : α → sProp 𝕄}
    {kk : PUnit → Prog (TpuEff nD τ sig (Elt F) Λ₀ .tc) α} :
    iprop(∃ f, qs (F := F) c s f) ⊢ iprop((qs c s (spread w) -∗ wp frame (wpE (defs₀ (F := F)) 𝒱₀ (c : Thread nD τ) none) Set.univ (kk ⟨⟩) Q)
      -∗ wp frame (wpE (defs₀ (F := F)) 𝒱₀ (c : Thread nD τ) none) Set.univ (.op (.store mQs (Rect.unit (s := S3x1024x512) off S1x1024x512.size ib) w Finset.univ hx hm) kk) Q) := by
  iintro ⟨%f, H⟩ Hk
  unfold qs
  iapply (wp_store (defs := defs₀ (F := F)) 𝒱₀ (c : Thread nD τ) none Set.univ (m := mQs) (r := (Rect.unit (s := S3x1024x512) off S1x1024x512.size ib)) (Mk := Finset.univ) (S := slotSet s) (by
      rw [View.setOn_univ]
      show ((View.whole _).slice _).set ⊆ _
      rw [View.set_slice_whole, unit_slot h ib])) $$ H
  iintro H
  iapply Hk
  iapply (Entails.of_eq (pointsTo_congr (store_qs h ib f w))) $$ H

theorem load_qr_step {s : ℕ} {off : Fin 3 → ℕ} (h : off = ![s, 0, 0]) (ib : inbY off) (w : Vec F S1x1024x512 .i8)
    {hl : mQr.view.LoadsAt (Rect.unit (s := S4x1024x512) off S1x1024x512.size ib).toLoadRect}
    {α : Type} {Q : α → sProp 𝕄}
    {kk : Vec F S1x1024x512 .i8 → Prog (TpuEff nD τ sig (Elt F) Λ₀ .tc) α} :
    qr c s (spread w) ⊢ iprop((qr (F := F) c s (spread w) -∗ wp frame (wpE (defs₀ (F := F)) 𝒱₀ (c : Thread nD τ) none) Set.univ (kk w) Q)
      -∗ wp frame (wpE (defs₀ (F := F)) 𝒱₀ (c : Thread nD τ) none) Set.univ (.op (.load mQr (Rect.unit (s := S4x1024x512) off S1x1024x512.size ib).toLoadRect hl) kk) Q) := by
  unfold qr
  have hw := wp_load (defs := defs₀ (F := F)) (Γ := PendingWaitsCtx.empty) 𝒱₀ (c : Thread nD τ) none Set.univ (m := mQr) (r := (Rect.unit (s := S4x1024x512) off S1x1024x512.size ib).toLoadRect)
    (hl := hl) (S := slotSet s) (q := fullShare) (f := spread w) (k := kk) (Q := Q) (by
      exact (Finset.map_refl.trans (unit_slot h ib)).le)
  rw [load_qr (F := F) h ib w] at hw
  exact hw

theorem load_ad_step {s : ℕ} {off : Fin 3 → ℕ} (h : off = ![s, 0, 0]) (ib : inbA off) (d : Dev nD)
    {hl : mAd.view.LoadsAt (Rect.unit (s := S4x8x128) off S1x8x128.size ib).toLoadRect}
    {α : Type} {Q : α → sProp 𝕄}
    {kk : Vec F S1x8x128 .f32 → Prog (TpuEff nD τ sig (Elt F) Λ₀ .tc) α} :
    ad c s (spread (am X W d)) ⊢ iprop((ad c s (spread (am X W d)) -∗ wp frame (wpE (defs₀ (F := F)) 𝒱₀ (c : Thread nD τ) none) Set.univ (kk (am X W d)) Q)
      -∗ wp frame (wpE (defs₀ (F := F)) 𝒱₀ (c : Thread nD τ) none) Set.univ (.op (.load mAd (Rect.unit (s := S4x8x128) off S1x8x128.size ib).toLoadRect hl) kk) Q) := by
  unfold ad
  exact wp_load (defs := defs₀ (F := F)) 𝒱₀ (c : Thread nD τ) none Set.univ (m := mAd) (r := (Rect.unit (s := S4x8x128) off S1x8x128.size ib).toLoadRect)
    (hl := hl) (S := slotSet s) (q := fullShare) (f := spread (am X W d)) (k := kk) (Q := Q) (by
      exact (Finset.map_refl.trans (unit_slot h ib)).le)

end Cert.RingQuant

end
-- ==== Proof.PartFacts.lean ====
/-
The kernel's parts at the buffers it is given, and the facts the parts' rules ask for: the devices and semaphores the
effects name, the amounts the copies credit, the payloads at a neighbour's cells.
-/
module

public import proofs.«01_k».proof.Proof.Steps

@[expose] public section

set_option maxRecDepth 65536

noncomputable section

namespace Cert.RingQuant

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The parts -/

abbrev P1 := k0_part1 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P2 := k0_part2 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P3 := k0_part3 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P4 := k0_part4 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P5 := k0_part5 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P6 := k0_part6 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P7 := k0_part7 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P8 := k0_part8 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P9 := k0_part9 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P10 := k0_part10 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P11 := k0_part11 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P12 := k0_part12 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P13 := k0_part13 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P14 := k0_part14 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P15 := k0_part15 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P16 := k0_part16 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P17 := k0_part17 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P18 := k0_part18 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15
abbrev P19 := k0_part19 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15

/-! ## Devices -/
theorem dev1_eq (c : Dev nD) : (⟨k0_dev1 c, k0_dev1_lt c⟩ : Dev nD) = dv c 3 := Fin.ext (k0_dev1_eq c)
theorem dev2_eq (c : Dev nD) : (⟨k0_dev2 c, k0_dev2_lt c⟩ : Dev nD) = dv c 1 := Fin.ext (k0_dev2_eq c)
theorem dev3_eq (c : Dev nD) : (⟨k0_dev3 c, k0_dev3_lt c⟩ : Dev nD) = dv c 1 := Fin.ext (k0_dev3_eq c)
theorem dev4_eq (c : Dev nD) : (⟨k0_dev4 c, k0_dev4_lt c⟩ : Dev nD) = dv c 3 := Fin.ext (k0_dev4_eq c)
theorem dev5_eq (c : Dev nD) : (⟨k0_dev5 c, k0_dev5_lt c⟩ : Dev nD) = dv c 3 := Fin.ext (k0_dev5_eq c)
theorem dev6_eq (c : Dev nD) : (⟨k0_dev6 c, k0_dev6_lt c⟩ : Dev nD) = dv c 1 := Fin.ext (k0_dev6_eq c)
theorem dev7_eq (c : Dev nD) : (⟨k0_dev7 c, k0_dev7_lt c⟩ : Dev nD) = dv c 1 := Fin.ext (k0_dev7_eq c)
theorem dev8_eq (c : Dev nD) : (⟨k0_dev8 c, k0_dev8_lt c⟩ : Dev nD) = dv c 3 := Fin.ext (k0_dev8_eq c)
theorem dev9_eq (c : Dev nD) : (⟨k0_dev9 c, k0_dev9_lt c⟩ : Dev nD) = dv c 3 := Fin.ext (k0_dev9_eq c)
theorem dev10_eq (c : Dev nD) : (⟨k0_dev10 c, k0_dev10_lt c⟩ : Dev nD) = dv c 1 := Fin.ext (k0_dev10_eq c)
theorem dev11_eq (c : Dev nD) : (⟨k0_dev11 c, k0_dev11_lt c⟩ : Dev nD) = dv c 1 := Fin.ext (k0_dev11_eq c)
theorem dev12_eq (c : Dev nD) : (⟨k0_dev12 c, k0_dev12_lt c⟩ : Dev nD) = dv c 3 := Fin.ext (k0_dev12_eq c)
theorem dev13_eq (c : Dev nD) : (⟨k0_dev13 c, k0_dev13_lt c⟩ : Dev nD) = dv c 1 := Fin.ext (k0_dev13_eq c)
theorem dev14_eq (c : Dev nD) : (⟨k0_dev14 c, k0_dev14_lt c⟩ : Dev nD) = dv c 2 := Fin.ext (k0_dev14_eq c)
theorem dev15_eq (c : Dev nD) : (⟨k0_dev15 c, k0_dev15_lt c⟩ : Dev nD) = dv c 3 := Fin.ext (k0_dev15_eq c)
theorem dev16_eq (c : Dev nD) : (⟨k0_dev16 c, k0_dev16_lt c⟩ : Dev nD) = dv c 1 := Fin.ext (k0_dev16_eq c)
theorem dev17_eq (c : Dev nD) : (⟨k0_dev17 c, k0_dev17_lt c⟩ : Dev nD) = dv c 2 := Fin.ext (k0_dev17_eq c)
theorem dev18_eq (c : Dev nD) : (⟨k0_dev18 c, k0_dev18_lt c⟩ : Dev nD) = dv c 3 := Fin.ext (k0_dev18_eq c)

theorem dv31 (c : Dev nD) : dv (dv c 3) 1 = c := (dv_dv c 3 1).trans (dv_four c)
theorem dv13 (c : Dev nD) : dv (dv c 1) 3 = c := (dv_dv c 1 3).trans (dv_four c)
theorem dv11 (c : Dev nD) : dv (dv c 1) 1 = dv c 2 := dv_dv c 1 1
theorem dv12 (c : Dev nD) : dv (dv c 1) 2 = dv c 3 := dv_dv c 1 2
theorem dv32 (c : Dev nD) : dv (dv c 3) 2 = dv c 1 := by revert c; decide
theorem dv33 (c : Dev nD) : dv (dv c 3) 3 = dv c 2 := by revert c; decide
theorem dv23 (c : Dev nD) : dv (dv c 2) 3 = dv c 1 := by revert c; decide
theorem dv21 (c : Dev nD) : dv (dv c 2) 1 = dv c 3 := by revert c; decide

/-! ## Payloads at a neighbour's cells, in the sender's terms -/

theorem bar_l0 (c : Dev nD) : barPay (F := F) (dv c 3) 0 true = iprop((∃ f, cw (F := F) c 1 fullShare f) ∗ inbox c (dv c 3)) := by
  simp only [barPay, dv31]
theorem bar_r0 (c : Dev nD) : barPay (F := F) (dv c 1) 0 false
    = iprop((∃ f, cc (F := F) c 1 fullShare f) ∗ inbox c (dv c 1) ∗ inbox c (dv c 2)) := by
  simp only [barPay, dv13, dv11]
theorem bar_l1 (c : Dev nD) : barPay (F := F) (dv c 3) 1 true = iprop(∃ f, cw (F := F) c 0 fullShare f) := by
  simp only [barPay, dv31]
theorem bar_r1 (c : Dev nD) : barPay (F := F) (dv c 1) 1 false
    = iprop((∃ f, cc (F := F) c 0 fullShare f) ∗ inbox (dv c 3) (dv c 1)) := by
  simp only [barPay, dv13, dv12]
theorem bar_l2 (c : Dev nD) : barPay (F := F) (dv c 3) 2 true
    = iprop((∃ f, cw (F := F) c 1 fullShare f) ∗ reached ER (cell c 4) 1) := by
  simp only [barPay, dv31]
theorem bar_r2 (c : Dev nD) : barPay (F := F) (dv c 1) 2 false
    = iprop((∃ f, cc (F := F) c 1 fullShare f) ∗ reached ER (cell c 8) 1) := by
  simp only [barPay, dv13]

/-! ## Payloads at the device's own barrier -/

theorem own_l0 (c : Dev nD) : barPay (F := F) c 0 false
    = iprop((∃ f, cc (F := F) (dv c 3) 1 fullShare f) ∗ inbox (dv c 3) c ∗ inbox (dv c 3) (dv c 1)) := rfl
theorem own_r0 (c : Dev nD) : barPay (F := F) c 0 true = iprop((∃ f, cw (F := F) (dv c 1) 1 fullShare f) ∗ inbox (dv c 1) c) := rfl
theorem own_l1 (c : Dev nD) : barPay (F := F) c 1 false = iprop((∃ f, cc (F := F) (dv c 3) 0 fullShare f) ∗ inbox (dv c 2) c) := rfl
theorem own_r1 (c : Dev nD) : barPay (F := F) c 1 true = iprop(∃ f, cw (F := F) (dv c 1) 0 fullShare f) := rfl
theorem own_l2 (c : Dev nD) : barPay (F := F) c 2 false
    = iprop((∃ f, cc (F := F) (dv c 3) 1 fullShare f) ∗ reached ER (cell (dv c 3) 8) 1) := rfl
theorem own_r2 (c : Dev nD) : barPay (F := F) c 2 true
    = iprop((∃ f, cw (F := F) (dv c 1) 1 fullShare f) ∗ reached ER (cell (dv c 1) 4) 1) := rfl

variable (X : Dev nD → Vec F S1024x4096 .bf16) (W : Dev nD → Vec F S4096x512 .bf16)
variable (K : Dev nD × Fin 23 → ℕ) (c : Dev nD)

theorem ring_pay (d : Dev nD) (k : Fin 23) (r : ℕ) (b : Bool) (h0 : 0 < k.val) (h : k.val < 9) : pay X W d k r b = ringPay W d k.val r := by
  unfold pay
  rw [if_neg (by omega), if_pos h]

theorem land_cw0 : iprop(cw (dv c 1) 1 fullShare (spread (wL W c)) ∗ reached ER (cell c 0) 1) ⊢ pay X W (dv c 1) 4 0 false := by
  rw [ring_pay X W _ 4 0 false (by decide) (by decide)]
  show _ ⊢ iprop(cw (dv c 1) 1 fullShare (spread (wL W (dv (dv c 1) 3))) ∗ reached ER (cell (dv (dv c 1) 3) 0) 1)
  rw [dv13]
theorem land_cc0 : iprop(cc (dv c 3) 1 fullShare (spread (wR W c)) ∗ reached ER (cell c 0) 1) ⊢ pay X W (dv c 3) 8 0 false := by
  rw [ring_pay X W _ 8 0 false (by decide) (by decide)]
  show _ ⊢ iprop(cc (dv c 3) 1 fullShare (spread (wR W (dv (dv c 3) 1))) ∗ reached ER (cell (dv (dv c 3) 1) 0) 1)
  rw [dv31]
theorem land_cw1 : iprop(cw (dv c 1) 0 fullShare (spread (wL W (dv c 3))) ∗ reached ER (cell c 0) 2) ⊢ pay X W (dv c 1) 3 0 false := by
  rw [ring_pay X W _ 3 0 false (by decide) (by decide)]
  show _ ⊢ iprop(cw (dv c 1) 0 fullShare (spread (wL W (dv (dv c 1) 2))) ∗ reached ER (cell (dv (dv c 1) 3) 0) 2)
  rw [dv13, dv12]
theorem land_cc1 : iprop(cc (dv c 3) 0 fullShare (spread (wR W (dv c 1))) ∗ reached ER (cell c 0) 2) ⊢ pay X W (dv c 3) 7 0 false := by
  rw [ring_pay X W _ 7 0 false (by decide) (by decide)]
  show _ ⊢ iprop(cc (dv c 3) 0 fullShare (spread (wR W (dv (dv c 3) 2))) ∗ reached ER (cell (dv (dv c 3) 1) 0) 2)
  rw [dv31, dv32]
theorem land_cw2 : iprop(cw (dv c 1) 1 fullShare (spread (wL W (dv c 2))) ∗ emp) ⊢ pay X W (dv c 1) 4 1 false := by
  rw [ring_pay X W _ 4 1 false (by decide) (by decide)]
  show _ ⊢ cw (dv c 1) 1 fullShare (spread (wL W (dv (dv c 1) 1)))
  rw [dv11]; exact (sep_emp (PROP := sProp 𝕄)).1
theorem land_cc2 : iprop(cc (dv c 3) 1 fullShare (spread (wR W (dv c 2))) ∗ emp) ⊢ pay X W (dv c 3) 8 1 false := by
  rw [ring_pay X W _ 8 1 false (by decide) (by decide)]
  show _ ⊢ cc (dv c 3) 1 fullShare (spread (wR W (dv (dv c 3) 3)))
  rw [dv33]; exact (sep_emp (PROP := sProp 𝕄)).1

/-! ## Whole buffers, and shares -/

theorem load_x_step (f : Vec F S1024x4096 .bf16) {inb} {hl : mX.view.LoadsAt (Rect.unit (s := S1024x4096) ![0, 0] S1024x4096.size inb).toLoadRect}
    {α : Type} {Q : α → sProp 𝕄} {kk : Vec F S1024x4096 .bf16 → Prog (TpuEff nD τ sig (Elt F) Λ₀ .tc) α} :
    hold (F := F) c cc0_stg0_0 f ⊢ iprop((hold (F := F) c cc0_stg0_0 f -∗ wp frame (wpE (defs₀ (F := F)) 𝒱₀ (c : Thread nD τ) none) Set.univ (kk f) Q) -∗ wp frame (wpE (defs₀ (F := F)) 𝒱₀ (c : Thread nD τ) none) Set.univ (.op (.load mX (Rect.unit (s := S1024x4096) ![0, 0] S1024x4096.size inb).toLoadRect hl) kk) Q) := by
  have hw := load_hold_step (F := F) (Q := Q) c mX f (r := (Rect.unit (s := S1024x4096) ![0, 0] S1024x4096.size inb).toLoadRect) (hl := hl) (kk := kk)
  have e : mX.view.readAt (Elt F) (Rect.unit (s := S1024x4096) ![0, 0] S1024x4096.size inb).toLoadRect f = f :=
    Memref.readAt_unit_zero (Elt F) cc0_stg0_0 (funext fun a => by fin_cases a <;> rfl) inb f
  rw [e] at hw
  exact hw

theorem load_xb_step (f : Vec F S1024x4096 .bf16) {inb} {hl : mXb.view.LoadsAt (Rect.unit (s := S1024x4096) ![0, 0] S1024x4096.size inb).toLoadRect}
    {α : Type} {Q : α → sProp 𝕄} {kk : Vec F S1024x4096 .bf16 → Prog (TpuEff nD τ sig (Elt F) Λ₀ .tc) α} :
    hold (F := F) c cc0_scratch0 f ⊢ iprop((hold (F := F) c cc0_scratch0 f -∗ wp frame (wpE (defs₀ (F := F)) 𝒱₀ (c : Thread nD τ) none) Set.univ (kk f) Q) -∗ wp frame (wpE (defs₀ (F := F)) 𝒱₀ (c : Thread nD τ) none) Set.univ (.op (.load mXb (Rect.unit (s := S1024x4096) ![0, 0] S1024x4096.size inb).toLoadRect hl) kk) Q) := by
  have hw := load_hold_step (F := F) (Q := Q) c mXb f (r := (Rect.unit (s := S1024x4096) ![0, 0] S1024x4096.size inb).toLoadRect) (hl := hl) (kk := kk)
  have e : mXb.view.readAt (Elt F) (Rect.unit (s := S1024x4096) ![0, 0] S1024x4096.size inb).toLoadRect f = f :=
    Memref.readAt_unit_zero (Elt F) cc0_scratch0 (funext fun a => by fin_cases a <;> rfl) inb f
  rw [e] at hw
  exact hw

theorem peek_xb_step {r : LoadRect S1024x4096} {hl : mXb.view.LoadsAt r}
    {α : Type} {Q : α → sProp 𝕄} {kk : (r.shape.Idx → Elt F .bf16) → Prog (TpuEff nD τ sig (Elt F) Λ₀ .tc) α} :
    iprop(∃ f, hold (F := F) c cc0_scratch0 f) ⊢ iprop((∀ w, (∃ f, hold (F := F) c cc0_scratch0 f) -∗ wp frame (wpE (defs₀ (F := F)) 𝒱₀ (c : Thread nD τ) none) Set.univ (kk w) Q) -∗ wp frame (wpE (defs₀ (F := F)) 𝒱₀ (c : Thread nD τ) none) Set.univ (.op (.load mXb r hl) kk) Q) := by
  iintro ⟨%f, H⟩ Hk
  iapply (load_hold_step c mXb f) $$ H
  iintro H
  iapply Hk
  iexists f; iexact H

theorem store_xb_step (w : Vec F S1024x4096 .bf16) {inb} {hx : (mXb.access (Rect.unit (s := S1024x4096) ![0, 0] S1024x4096.size inb)).Stores Finset.univ} {hm}
    {α : Type} {Q : α → sProp 𝕄} {kk : PUnit → Prog (TpuEff nD τ sig (Elt F) Λ₀ .tc) α} :
    iprop(∃ f, hold (F := F) c cc0_scratch0 f) ⊢ iprop((hold (F := F) c cc0_scratch0 w -∗ wp frame (wpE (defs₀ (F := F)) 𝒱₀ (c : Thread nD τ) none) Set.univ (kk ⟨⟩) Q)
      -∗ wp frame (wpE (defs₀ (F := F)) 𝒱₀ (c : Thread nD τ) none) Set.univ (.op (.store mXb (Rect.unit (s := S1024x4096) ![0, 0] S1024x4096.size inb) w Finset.univ hx hm) kk) Q) := by
  iintro ⟨%f, H⟩ Hk
  unfold hold
  iapply (wp_store (defs := defs₀ (F := F)) 𝒱₀ (c : Thread nD τ) none Set.univ (m := mXb) (r := Rect.unit (s := S1024x4096) ![0, 0] S1024x4096.size inb) (Mk := Finset.univ) (Finset.subset_univ _)) $$ H
  iintro H
  iapply Hk
  iapply (Entails.of_eq (congrArg (fun v => (((c : Thread nD τ).loc cc0_scratch0) ↦{fullShare} v : sProp 𝕄))
    (Memref.write_access_unit_zero_univ (Elt F) cc0_scratch0 (funext fun a => by fin_cases a <;> rfl) inb f w))) $$ H

theorem peek_as_step {r : LoadRect S8x128} {hl : mAs.view.LoadsAt r}
    {α : Type} {Q : α → sProp 𝕄} {kk : (r.shape.Idx → Elt F .f32) → Prog (TpuEff nD τ sig (Elt F) Λ₀ .tc) α} :
    iprop(∃ f, asr (F := F) c fullShare f) ⊢ iprop((∀ w, (∃ f, asr (F := F) c fullShare f) -∗ wp frame (wpE (defs₀ (F := F)) 𝒱₀ (c : Thread nD τ) none) Set.univ (kk w) Q) -∗ wp frame (wpE (defs₀ (F := F)) 𝒱₀ (c : Thread nD τ) none) Set.univ (.op (.load mAs r hl) kk) Q) := by
  iintro ⟨%f, H⟩ Hk
  unfold asr
  iapply (wp_load (defs := defs₀ (F := F)) 𝒱₀ (c : Thread nD τ) none Set.univ (m := mAs) (Finset.subset_univ _)) $$ H
  iintro H
  iapply Hk
  iexists f; iexact H

theorem store_as_step (v : F .f32) {inb} {w : Vec F S8x128 .f32} (hw : w = fun _ => v) {hx : (mAs.access (Rect.unit (s := S8x128) ![0, 0] S8x128.size inb)).Stores Finset.univ} {hm}
    {α : Type} {Q : α → sProp 𝕄} {kk : PUnit → Prog (TpuEff nD τ sig (Elt F) Λ₀ .tc) α} :
    iprop(∃ f, asr (F := F) c fullShare f) ⊢ iprop((asr c fullShare (fun _ => v) -∗ wp frame (wpE (defs₀ (F := F)) 𝒱₀ (c : Thread nD τ) none) Set.univ (kk ⟨⟩) Q)
      -∗ wp frame (wpE (defs₀ (F := F)) 𝒱₀ (c : Thread nD τ) none) Set.univ (.op (.store mAs (Rect.unit (s := S8x128) ![0, 0] S8x128.size inb) w Finset.univ hx hm) kk) Q) := by
  subst hw
  iintro ⟨%f, H⟩ Hk
  unfold asr
  iapply (wp_store (defs := defs₀ (F := F)) 𝒱₀ (c : Thread nD τ) none Set.univ (m := mAs) (r := Rect.unit (s := S8x128) ![0, 0] S8x128.size inb) (Mk := Finset.univ) (Finset.subset_univ _)) $$ H
  iintro H
  iapply Hk
  iapply (Entails.of_eq (congrArg (fun v => (((c : Thread nD τ).loc cc0_scratch12) ↦{fullShare} v : sProp 𝕄))
    (Memref.write_access_unit_zero_univ (Elt F) cc0_scratch12 (funext fun a => by fin_cases a <;> rfl) inb f (fun _ => v)))) $$ H

/-- A slot, or the maximum's block, held in full is held in shares, and back. -/
theorem cw_split (s : ℕ) (f : S2x4096x256.Idx → F .bf16) : cw c s fullShare f ⊢ iprop(cw c s shH f ∗ cw c s fullShare.right f) := by
  unfold cw; exact (pointsTo_share (PosShare.mem_left_op_right fullShare)).1
theorem cw_join (s : ℕ) (f : S2x4096x256.Idx → F .bf16) : iprop(cw c s shH f ∗ cw c s fullShare.right f) ⊢ cw c s fullShare f := by
  unfold cw; exact (pointsTo_share (PosShare.mem_left_op_right fullShare)).2
theorem cc_split (s : ℕ) (f : S2x4096x256.Idx → F .bf16) : cc c s fullShare f ⊢ iprop(cc c s shH f ∗ cc c s fullShare.right f) := by
  unfold cc; exact (pointsTo_share (PosShare.mem_left_op_right fullShare)).1
theorem cc_join (s : ℕ) (f : S2x4096x256.Idx → F .bf16) : iprop(cc c s shH f ∗ cc c s fullShare.right f) ⊢ cc c s fullShare f := by
  unfold cc; exact (pointsTo_share (PosShare.mem_left_op_right fullShare)).2
theorem asr_split (f : S8x128.Idx → F .f32) : asr c fullShare f ⊢ iprop(asr c (shA 0) f ∗ asr c (shA 1) f ∗ asr c (shA 2) f) := by
  unfold asr
  iintro H
  ihave H := (pointsTo_share (PosShare.mem_left_op_right fullShare)).1 $$ H
  icases H with ⟨H0, H⟩
  ihave H := (pointsTo_share (PosShare.mem_left_op_right fullShare.right)).1 $$ H
  icases H with ⟨H1, H2⟩
  isplitl [H0]; · iexact H0
  isplitl [H1]; · iexact H1
  iexact H2

/-! ## Semaphores -/

theorem off3_sem_a : SemLoc.dma ((cc0_scratch15.slice (Rect.unit (s := S4) (k0_off3 c) S1.size (k0_off3_inb c))).squeeze S_ squeezes_S1_S_).sem = csem (aR c) := by
  revert c; decide
theorem off3_sem_t : SemLoc.dma ((cc0_scratch11.slice (Rect.unit (s := S4) (k0_off3 c) S1.size (k0_off3_inb c))).squeeze S_ squeezes_S1_S_).sem = csem (tR c) := by
  revert c; decide
theorem off5_sem_a1 : SemLoc.dma ((cc0_scratch15.slice (Rect.unit (s := S4) (k0_off5 c 1#32) S1.size (k0_off5_inb c 0))).squeeze S_ squeezes_S1_S_).sem = csem (aR (dv c 1)) := by
  revert c; decide
theorem off5_sem_a2 : SemLoc.dma ((cc0_scratch15.slice (Rect.unit (s := S4) (k0_off5 c 2#32) S1.size (k0_off5_inb c 1))).squeeze S_ squeezes_S1_S_).sem = csem (aR (dv c 2)) := by
  revert c; decide
theorem off5_sem_a3 : SemLoc.dma ((cc0_scratch15.slice (Rect.unit (s := S4) (k0_off5 c 3#32) S1.size (k0_off5_inb c 2))).squeeze S_ squeezes_S1_S_).sem = csem (aR (dv c 3)) := by
  revert c; decide
theorem off5_sem_t1 : SemLoc.dma ((cc0_scratch11.slice (Rect.unit (s := S4) (k0_off5 c 1#32) S1.size (k0_off5_inb c 0))).squeeze S_ squeezes_S1_S_).sem = csem (tR (dv c 1)) := by
  revert c; decide
theorem off5_sem_t2 : SemLoc.dma ((cc0_scratch11.slice (Rect.unit (s := S4) (k0_off5 c 2#32) S1.size (k0_off5_inb c 1))).squeeze S_ squeezes_S1_S_).sem = csem (tR (dv c 2)) := by
  revert c; decide
theorem off5_sem_t3 : SemLoc.dma ((cc0_scratch11.slice (Rect.unit (s := S4) (k0_off5 c 3#32) S1.size (k0_off5_inb c 2))).squeeze S_ squeezes_S1_S_).sem = csem (tR (dv c 3)) := by
  revert c; decide

/-! ## Offsets -/

theorem off1_0 (c : Dev nD) : k0_off1 c 0#32 = ![c.val, 0, 0] := by revert c; decide
theorem off2_0 (c : Dev nD) : k0_off2 c 0#32 = ![c.val, 0, 256] := by revert c; decide
theorem off1_1 (c : Dev nD) : k0_off1 c 1#32 = ![(dv c 3).val, 0, 0] := by revert c; decide
theorem off2_1 (c : Dev nD) : k0_off2 c 1#32 = ![(dv c 1).val, 0, 256] := by revert c; decide
theorem off1_2 (c : Dev nD) : k0_off1 c 2#32 = ![(dv c 2).val, 0, 0] := by revert c; decide
theorem off2_2 (c : Dev nD) : k0_off2 c 2#32 = ![(dv c 2).val, 0, 256] := by revert c; decide
theorem off1_3 (c : Dev nD) : k0_off1 c 3#32 = ![(dv c 1).val, 0, 0] := by revert c; decide
theorem off2_3 (c : Dev nD) : k0_off2 c 3#32 = ![(dv c 3).val, 0, 256] := by revert c; decide
theorem off6_1 (c : Dev nD) : k0_off6 c 1#32 = ![(dv c 1).val, 0, 0] := by revert c; decide
theorem off6_2 (c : Dev nD) : k0_off6 c 2#32 = ![(dv c 2).val, 0, 0] := by revert c; decide
theorem off6_3 (c : Dev nD) : k0_off6 c 3#32 = ![(dv c 3).val, 0, 0] := by revert c; decide
theorem off7_1 (c : Dev nD) : k0_off7 c 1#32 = ![(dv c 1).val, 0, 0] := by revert c; decide
theorem off7_2 (c : Dev nD) : k0_off7 c 2#32 = ![(dv c 2).val, 0, 0] := by revert c; decide
theorem off7_3 (c : Dev nD) : k0_off7 c 3#32 = ![(dv c 3).val, 0, 0] := by revert c; decide
theorem off8_1 (c : Dev nD) : k0_off8 c 1#32 = ![(dv c 1).val, 0, 0] := by revert c; decide
theorem off8_2 (c : Dev nD) : k0_off8 c 2#32 = ![(dv c 2).val, 0, 0] := by revert c; decide
theorem off8_3 (c : Dev nD) : k0_off8 c 3#32 = ![(dv c 3).val, 0, 0] := by revert c; decide
theorem off12_1 (c : Dev nD) : k0_off12 c 1#32 = ![(dv c 1).val, 0, 0] := by revert c; decide
theorem off12_2 (c : Dev nD) : k0_off12 c 2#32 = ![(dv c 2).val, 0, 0] := by revert c; decide
theorem off12_3 (c : Dev nD) : k0_off12 c 3#32 = ![(dv c 3).val, 0, 0] := by revert c; decide
theorem off13_1 (c : Dev nD) : k0_off13 c 1#32 = ![1024 * (dv c 1).val, 0] := by revert c; decide
theorem off13_2 (c : Dev nD) : k0_off13 c 2#32 = ![1024 * (dv c 2).val, 0] := by revert c; decide
theorem off13_3 (c : Dev nD) : k0_off13 c 3#32 = ![1024 * (dv c 3).val, 0] := by revert c; decide
theorem off4_0 (c : Dev nD) : k0_off4 c = ![c.val, 0, 0] := by revert c; decide
theorem off9_0 (c : Dev nD) : k0_off9 c = ![c.val, 0, 0] := by revert c; decide
theorem off10_0 (c : Dev nD) : k0_off10 c = ![c.val, 0, 0] := by revert c; decide
theorem off11_0 (c : Dev nD) : k0_off11 c = ![1024 * c.val, 0] := by revert c; decide
theorem yl_0 (c : Dev nD) : c.val = (c.val + 4 - 0) % 4 := by revert c; decide
theorem yr_0 (c : Dev nD) : c.val = (c.val + 0) % 4 := by revert c; decide
theorem yl_1 (c : Dev nD) : (dv c 3).val = (c.val + 4 - 1) % 4 := by revert c; decide
theorem yr_1 (c : Dev nD) : (dv c 1).val = (c.val + 1) % 4 := by revert c; decide
theorem yl_2 (c : Dev nD) : (dv c 2).val = (c.val + 4 - 2) % 4 := by revert c; decide
theorem yr_2 (c : Dev nD) : (dv c 2).val = (c.val + 2) % 4 := by revert c; decide
theorem yl_3 (c : Dev nD) : (dv c 1).val = (c.val + 4 - 3) % 4 := by revert c; decide
theorem yr_3 (c : Dev nD) : (dv c 3).val = (c.val + 3) % 4 := by revert c; decide

theorem amt_aR (s : Dev nD) : amt (aR s) = NA := by revert s; decide
theorem amt_tR (s : Dev nD) : amt (tR s) = NT := by revert s; decide
theorem ne_1 (c : Dev nD) : dv c 1 ≠ c := by revert c; decide
theorem ne_2 (c : Dev nD) : dv c 2 ≠ c := by revert c; decide
theorem ne_3 (c : Dev nD) : dv c 3 ≠ c := by revert c; decide

end Cert.RingQuant

end
-- ==== Proof.HopZero.lean ====
/-
The entry barrier and hop 0: the weights' halves put into slot 0 of either ring, sent to the neighbours' slot 1, and the
device's own rows multiplied by its own columns meanwhile.
-/
module

public import proofs.«01_k».proof.Proof.PartFacts

@[expose] public section

set_option maxRecDepth 65536

noncomputable section

namespace Cert.RingQuant

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S1024x4096 .bf16) (W : Dev nD → Vec F S4096x512 .bf16)
variable (K : Dev nD × Fin 23 → ℕ) (c : Dev nD)

/-- The entry barrier, and both halves of the weights put in place. -/
theorem part1_spec {Q : _ → sProp 𝕄} :
    records X W K ⊢ iprop(ow (F := F) c 0 -∗
      dutyTok ER (cell (dv c 3) 0) 0 true -∗
      dutyTok ER (cell (dv c 1) 0) 0 false -∗
      (∃ f, cw (F := F) c 1 fullShare f) -∗
      (∃ f, cc (F := F) c 1 fullShare f) -∗
      inbox (F := F) c (dv c 3) -∗
      inbox (F := F) c (dv c 1) -∗
      inbox (F := F) c (dv c 2) -∗
      cred (tallyAt (cell c 0) 0 2) -∗
      atPos ER (cell c 0) 0 ∅ 0 -∗
      hold (F := F) c cc0_stg1_0 (W c) -∗
      (∃ f, cw (F := F) c 0 fullShare f) -∗
      (∃ f, cc (F := F) c 0 fullShare f) -∗
      (∀ v2 v5 v7 v23, (ow (F := F) c 2 ∗ atPos ER (cell c 0) 1 ∅ 0 ∗ reached ER (cell c 0) 1 ∗ (∃ f, cc (F := F) (dv c 3) 1 fullShare f) ∗ inbox (F := F) (dv c 3) c ∗ inbox (F := F) (dv c 3) (dv c 1) ∗ (∃ f, cw (F := F) (dv c 1) 1 fullShare f) ∗ inbox (F := F) (dv c 1) c ∗ hold (F := F) c cc0_stg1_0 (W c) ∗ cw c 0 fullShare (spread (wL W c)) ∗ cc c 0 fullShare (spread (wR W c))) -∗ Q ⟨c, v2, v5, v7, SemArray.scalar (sig.barrier 0 rfl), v23⟩) -∗
      wp frame (wpE (defs₀ (F := F)) 𝒱₀ (c : Thread nD τ) none) Set.univ (P1 (F := F) ) Q) := by
  unfold P1
  simp only [k0_part1_eq_skeleton]
  unfold k0_part1_skel
  simp only [semSignalWord, semWaitWord, Prog.lift, Prog.bind_op, Prog.bind_ret, Prog.pure_eq_ret, Prog.bind_assoc, wp_deviceId]
  iintro #Hrec Ho Ht1 Ht2 Hcw1 Hcc1 HiL HiR HiO Hc Ha HW Hcw0 Hcc0 Hk
  ihave #Hr0l := (records_reached X W K (dv c 3) 0) $$ Hrec
  ihave #Hr0r := (records_reached X W K (dv c 1) 0) $$ Hrec
  iapply (signal_step X W K c 0 0 true (dev1_eq c) rfl (by decide) (bar_l0 c) rfl) $$ Hrec Ho Ht1 Hr0l [Hcw1 HiL]
  · isplitl [Hcw1] <;> iassumption
  iintro Ho
  iapply (signal_step X W K c 1 0 false (dev2_eq c) rfl (by decide) (bar_r0 c) rfl) $$ Hrec Ho Ht2 Hr0r [Hcc1 HiR HiO]
  · isplitl [Hcc1]; · iexact Hcc1
    isplitl [HiR] <;> iassumption
  iintro Ho
  iapply (wait_bar X W K c 0 2 (own_l0 c) (own_r0 c) rfl (by decide) (by revert c; decide)) $$ Hrec Hc Ho Ha
  iintro ⟨Ho, Ha, #Hr, ⟨Hccp, Hi1, Hi2⟩, ⟨Hcwp, Hi3⟩⟩
  iapply (load_hold_step c mW (W c)) $$ HW
  iintro HW
  iapply (peek_cw_step c rfl _) $$ Hcw0
  iintro %v Hcw0
  clear v
  iapply (store_cw_step c rfl _ (wL W c)) $$ Hcw0
  iintro Hcw0
  iapply (load_hold_step c mW (W c)) $$ HW
  iintro HW
  iapply (peek_cc_step c rfl _) $$ Hcc0
  iintro %v Hcc0
  clear v
  iapply (store_cc_step c rfl _ (wR W c)) $$ Hcc0
  iintro Hcc0
  rw [wp_ret]; imodintro
  iapply Hk
  isplitl [Ho]; · iexact Ho
  isplitl [Ha]; · iexact Ha
  isplitr; · iexact Hr
  isplitl [Hccp]; · iexact Hccp
  isplitl [Hi1]; · iexact Hi1
  isplitl [Hi2]; · iexact Hi2
  isplitl [Hcwp]; · iexact Hcwp
  isplitl [Hi3]; · iexact Hi3
  isplitl [HW]; · iexact HW
  isplitl [Hcw0]; · iexact Hcw0
  iexact Hcc0

/-- Hop 0 starts on both rings; the rows are put in place, and read with the left half. -/
theorem part2_spec (v2 v5 v23 : BitVec 32) {Q : _ → sProp 𝕄} :
    records X W K ⊢ iprop(ow (F := F) c 2 -∗
      cw c 0 fullShare (spread (wL W c)) -∗
      cc c 0 fullShare (spread (wR W c)) -∗
      (∃ f, cw (F := F) (dv c 1) 1 fullShare f) -∗
      (∃ f, cc (F := F) (dv c 3) 1 fullShare f) -∗
      reached ER (cell c 0) 1 -∗
      dutyTok ER (cell c 1) 0 false -∗
      dutyTok ER (cell (dv c 1) 4) 0 false -∗
      dutyTok ER (cell c 5) 0 false -∗
      dutyTok ER (cell (dv c 3) 8) 0 false -∗
      hold (F := F) c cc0_stg0_0 (X c) -∗
      (∃ f, hold (F := F) c cc0_scratch0 f) -∗
      (∀ v50, (ow (F := F) c 4 ∗ cw c 0 fullShare.right (spread (wL W c)) ∗ cc c 0 fullShare.right (spread (wR W c)) ∗ cred (tallyAt (cell c 1) 0 (amt 1)) ∗ cred (tallyAt (cell c 5) 0 (amt 5)) ∗ hold (F := F) c cc0_stg0_0 (X c) ∗ hold (F := F) c cc0_scratch0 (xb X c)) -∗ Q ⟨v50, k0_pay4 (wL W c), xb X c⟩) -∗
      wp frame (wpE (defs₀ (F := F)) 𝒱₀ (c : Thread nD τ) none) Set.univ (P2 (F := F) c v2 v5 v23) Q) := by
  unfold P2
  simp only [k0_part2_eq_skeleton]
  unfold k0_part2_skel
  simp only [semSignalWord, semWaitWord, Prog.lift, Prog.bind_op, Prog.bind_ret, Prog.pure_eq_ret, Prog.bind_assoc, wp_deviceId]
  iintro #Hrec Ho Hcw Hcc Hcwp Hccp #Hr Ht1 Ht4 Ht5 Ht8 HX Hxb Hk
  ihave #Hr1 := (records_reached X W K c 1) $$ Hrec
  ihave #Hr5 := (records_reached X W K c 5) $$ Hrec
  ihave #Hr4 := (records_reached X W K (dv c 1) 4) $$ Hrec
  ihave #Hr8 := (records_reached X W K (dv c 3) 8) $$ Hrec
  ihave Hcw := (cw_split c 0 _) $$ Hcw
  icases Hcw with ⟨Hcwl, Hcw⟩
  ihave Hcc := (cc_split c 0 _) $$ Hcc
  icases Hcc with ⟨Hccl, Hcc⟩
  iapply (send_cw X W K c 1 4 0 0 2 0 1 (wL W c) (d := (dv c 1)) (dev3_eq c) rfl _ rfl _ rfl rfl (by revert c; decide) (by revert c; decide) rfl rfl rfl (Fr := reached ER (cell c 0) 1) (ring_pay X W c 1 0 false (by decide) (by decide)) (land_cw0 X W c)) $$ Hrec Hcwl Hcwp Hr Ho Ht1 Hr1 Ht4 Hr4
  iintro ⟨Hc1, Ho⟩
  iapply (send_cc X W K c 5 8 0 0 3 0 1 (wR W c) (d := (dv c 3)) (dev4_eq c) rfl _ rfl _ rfl rfl (by revert c; decide) (by revert c; decide) rfl rfl rfl (Fr := reached ER (cell c 0) 1) (ring_pay X W c 5 0 false (by decide) (by decide)) (land_cc0 X W c)) $$ Hrec Hccl Hccp Hr Ho Ht5 Hr5 Ht8 Hr8
  iintro ⟨Hc5, Ho⟩
  iapply (load_x_step c (X c)) $$ HX
  iintro HX
  iapply (peek_xb_step c) $$ Hxb
  iintro %v Hxb
  clear v
  iapply (store_xb_step c (xb X c)) $$ Hxb
  iintro Hxb
  iapply (load_cw_step c rfl _ (wL W c)) $$ Hcw
  iintro Hcw
  iapply (load_xb_step c (xb X c)) $$ Hxb
  iintro Hxb
  rw [wp_ret]; imodintro
  iapply Hk
  isplitl [Ho]; · iexact Ho
  isplitl [Hcw]; · iexact Hcw
  isplitl [Hcc]; · iexact Hcc
  isplitl [Hc1]; · iexact Hc1
  isplitl [Hc5]; · iexact Hc5
  isplitl [HX]; · iexact HX
  iexact Hxb

/-- Step 0: both halves of the device's own tile. -/
theorem part3_spec (v2 v50 : BitVec 32) {Q : _ → sProp 𝕄} :
    records X W K ⊢ iprop(cc c 0 fullShare.right (spread (wR W c)) -∗
      hold (F := F) c cc0_scratch0 (xb X c) -∗
      yb X W c 0 0 -∗
      ((cc c 0 fullShare.right (spread (wR W c)) ∗ hold (F := F) c cc0_scratch0 (xb X c) ∗ yb X W c 1 1) -∗ Q (m0 X W c)) -∗
      wp frame (wpE (defs₀ (F := F)) 𝒱₀ (c : Thread nD τ) none) Set.univ (P3 (F := F) c v2 v50 (k0_pay4 (wL W c)) (xb X c)) Q) := by
  unfold P3
  simp only [k0_part3_eq_skeleton]
  unfold k0_part3_skel
  simp only [semSignalWord, semWaitWord, Prog.lift, Prog.bind_op, Prog.bind_ret, Prog.pure_eq_ret, Prog.bind_assoc, wp_deviceId]
  unfold m0
  iintro #Hrec Hcc Hxb HY Hk
  iapply (peek_y_step X W c) $$ HY
  iintro %v HY
  clear v
  iapply (store_y_left X W c c (yl_0 c) (off1_0 c) _ rfl) $$ HY
  iintro HY
  iapply (load_cc_step c rfl _ (wR W c)) $$ Hcc
  iintro Hcc
  iapply (load_xb_step c (xb X c)) $$ Hxb
  iintro Hxb
  iapply (peek_y_step X W c) $$ HY
  iintro %v HY
  clear v
  iapply (store_y_right X W c c (yr_0 c) (off2_0 c) _ rfl) $$ HY
  iintro HY
  rw [wp_ret]; imodintro
  iapply Hk
  isplitl [Hcc]; · iexact Hcc
  isplitl [Hxb]; · iexact Hxb
  iexact HY

/-- The waits of hop 0. -/
theorem part4_spec (v5 v7 : BitVec 32) {Q : _ → sProp 𝕄} :
    records X W K ⊢ iprop(ow (F := F) c 4 -∗
      cw c 0 fullShare.right (spread (wL W c)) -∗
      cc c 0 fullShare.right (spread (wR W c)) -∗
      cred (tallyAt (cell c 1) 0 (amt 1)) -∗
      atPos ER (cell c 1) 0 ∅ 0 -∗
      cred (tallyAt (cell c 4) 0 (amt 4)) -∗
      atPos ER (cell c 4) 0 ∅ 0 -∗
      cred (tallyAt (cell c 5) 0 (amt 5)) -∗
      atPos ER (cell c 5) 0 ∅ 0 -∗
      cred (tallyAt (cell c 8) 0 (amt 8)) -∗
      atPos ER (cell c 8) 0 ∅ 0 -∗
      ((ow (F := F) c 4 ∗ cw c 0 fullShare (spread (wL W c)) ∗ cc c 0 fullShare (spread (wR W c)) ∗ cw c 1 fullShare (spread (wL W (dv c 3))) ∗ cc c 1 fullShare (spread (wR W (dv c 1))) ∗ reached ER (cell (dv c 3) 0) 1 ∗ reached ER (cell (dv c 1) 0) 1 ∗ atPos ER (cell c 1) 1 ∅ 0 ∗ atPos ER (cell c 4) 1 ∅ 0 ∗ atPos ER (cell c 5) 1 ∅ 0 ∗ atPos ER (cell c 8) 1 ∅ 0 ∗ reached ER (cell c 1) 1 ∗ reached ER (cell c 4) 1 ∗ reached ER (cell c 5) 1 ∗ reached ER (cell c 8) 1) -∗ Q ⟨⟩) -∗
      wp frame (wpE (defs₀ (F := F)) 𝒱₀ (c : Thread nD τ) none) Set.univ (P4 (F := F) v5 v7) Q) := by
  unfold P4
  simp only [k0_part4_eq_skeleton]
  unfold k0_part4_skel
  simp only [semSignalWord, semWaitWord, Prog.lift, Prog.bind_op, Prog.bind_ret, Prog.pure_eq_ret, Prog.bind_assoc, wp_deviceId]
  iintro #Hrec Ho Hcw Hcc Hc1 Ha1 Hc4 Ha4 Hc5 Ha5 Hc8 Ha8 Hk
  iapply (wait_copy X W K c 1 0 4 (P := iprop(cw c 0 shH (spread (wL W c)))) (ring_pay X W c 1 0 false (by decide) (by decide)) (wpE_waitDma2_eq 𝒱₀ (c : Thread nD τ) none Set.univ) rfl rfl (by revert c; decide) (by decide) (by revert c; decide)) $$ Hrec Hc1 Ho Ha1
  iintro ⟨Ho, Ha1, #Hr1, Hcwl⟩
  iapply (wait_copy X W K c 4 0 4 (P := iprop(cw c 1 fullShare (spread (wL W (dv c 3))) ∗ reached ER (cell (dv c 3) 0) 1)) (ring_pay X W c 4 0 false (by decide) (by decide)) (wpE_waitDma2_eq 𝒱₀ (c : Thread nD τ) none Set.univ) rfl rfl (by revert c; decide) (by decide) (by revert c; decide)) $$ Hrec Hc4 Ho Ha4
  iintro ⟨Ho, Ha4, #Hr4, ⟨Hcw1, #HrL⟩⟩
  iapply (wait_copy X W K c 5 0 4 (P := iprop(cc c 0 shH (spread (wR W c)))) (ring_pay X W c 5 0 false (by decide) (by decide)) (wpE_waitDma2_eq 𝒱₀ (c : Thread nD τ) none Set.univ) rfl rfl (by revert c; decide) (by decide) (by revert c; decide)) $$ Hrec Hc5 Ho Ha5
  iintro ⟨Ho, Ha5, #Hr5, Hccl⟩
  iapply (wait_copy X W K c 8 0 4 (P := iprop(cc c 1 fullShare (spread (wR W (dv c 1))) ∗ reached ER (cell (dv c 1) 0) 1)) (ring_pay X W c 8 0 false (by decide) (by decide)) (wpE_waitDma2_eq 𝒱₀ (c : Thread nD τ) none Set.univ) rfl rfl (by revert c; decide) (by decide) (by revert c; decide)) $$ Hrec Hc8 Ho Ha8
  iintro ⟨Ho, Ha8, #Hr8, ⟨Hcc1, #HrR⟩⟩
  ihave Hcw := (cw_join c 0 _) $$ [Hcwl Hcw]
  · isplitl [Hcwl] <;> iassumption
  ihave Hcc := (cc_join c 0 _) $$ [Hccl Hcc]
  · isplitl [Hccl] <;> iassumption
  rw [wp_ret]; imodintro
  iapply Hk
  isplitl [Ho]; · iexact Ho
  isplitl [Hcw]; · iexact Hcw
  isplitl [Hcc]; · iexact Hcc
  isplitl [Hcw1]; · iexact Hcw1
  isplitl [Hcc1]; · iexact Hcc1
  isplitr; · iexact HrL
  isplitr; · iexact HrR
  isplitl [Ha1]; · iexact Ha1
  isplitl [Ha4]; · iexact Ha4
  isplitl [Ha5]; · iexact Ha5
  isplitl [Ha8]; · iexact Ha8
  isplitr; · iexact Hr1
  isplitr; · iexact Hr4
  isplitr; · iexact Hr5
  iexact Hr8

end Cert.RingQuant

end
-- ==== Proof.HopOne.lean ====
/-
Hop 1: both neighbours learn that slot 0 is free, slot 1 goes on to their slot 0, and the rows are multiplied by the
weights hop 0 brought.
-/
module

public import proofs.«01_k».proof.Proof.PartFacts

@[expose] public section

set_option maxRecDepth 65536

noncomputable section

namespace Cert.RingQuant

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S1024x4096 .bf16) (W : Dev nD → Vec F S4096x512 .bf16)
variable (K : Dev nD × Fin 23 → ℕ) (c : Dev nD)

/-- The second round of the barrier, and hop 1 starts on both rings. -/
theorem part5_spec (v2 v5 v7 : BitVec 32) {Q : _ → sProp 𝕄} :
    records X W K ⊢ iprop(ow (F := F) c 4 -∗
      dutyTok ER (cell (dv c 3) 0) 1 true -∗
      dutyTok ER (cell (dv c 1) 0) 1 false -∗
      reached ER (cell (dv c 3) 0) 1 -∗
      reached ER (cell (dv c 1) 0) 1 -∗
      cw c 0 fullShare (spread (wL W c)) -∗
      cc c 0 fullShare (spread (wR W c)) -∗
      inbox (F := F) (dv c 3) (dv c 1) -∗
      cred (tallyAt (cell c 0) 1 2) -∗
      atPos ER (cell c 0) 1 ∅ 0 -∗
      cw c 1 fullShare (spread (wL W (dv c 3))) -∗
      cc c 1 fullShare (spread (wR W (dv c 1))) -∗
      dutyTok ER (cell c 2) 0 false -∗
      dutyTok ER (cell (dv c 1) 3) 0 false -∗
      dutyTok ER (cell c 6) 0 false -∗
      dutyTok ER (cell (dv c 3) 7) 0 false -∗
      (∀ v136, (ow (F := F) c 8 ∗ atPos ER (cell c 0) 2 ∅ 0 ∗ inbox (F := F) (dv c 2) c ∗ cw c 1 fullShare.right (spread (wL W (dv c 3))) ∗ cc c 1 fullShare.right (spread (wR W (dv c 1))) ∗ cred (tallyAt (cell c 2) 0 (amt 2)) ∗ cred (tallyAt (cell c 6) 0 (amt 6))) -∗ Q v136) -∗
      wp frame (wpE (defs₀ (F := F)) 𝒱₀ (c : Thread nD τ) none) Set.univ (P5 (F := F) c v2 v5 v7 (SemArray.scalar (sig.barrier 0 rfl))) Q) := by
  unfold P5
  simp only [k0_part5_eq_skeleton]
  unfold k0_part5_skel
  simp only [semSignalWord, semWaitWord, Prog.lift, Prog.bind_op, Prog.bind_ret, Prog.pure_eq_ret, Prog.bind_assoc, wp_deviceId]
  iintro #Hrec Ho Ht1 Ht2 #Hrl #Hrr Hcw0 Hcc0 Hi Hc Ha Hcw Hcc Hts2 Htr3 Hts6 Htr7 Hk
  iapply (signal_step X W K c 4 1 true (dev5_eq c) rfl (by decide) (bar_l1 c) rfl) $$ Hrec Ho Ht1 Hrl [Hcw0]
  · iexists _; iexact Hcw0
  iintro Ho
  iapply (signal_step X W K c 5 1 false (dev6_eq c) rfl (by decide) (bar_r1 c) rfl) $$ Hrec Ho Ht2 Hrr [Hcc0 Hi]
  · isplitl [Hcc0]
    · iexists _; iexact Hcc0
    iexact Hi
  iintro Ho
  iapply (wait_bar X W K c 1 6 (own_l1 c) (own_r1 c) rfl (by decide) (by revert c; decide)) $$ Hrec Hc Ho Ha
  iintro ⟨Ho, Ha, #Hr, ⟨Hccp, Hi⟩, Hcwp⟩
  ihave #Hr2 := (records_reached X W K c 2) $$ Hrec
  ihave #Hr6 := (records_reached X W K c 6) $$ Hrec
  ihave #Hr3 := (records_reached X W K (dv c 1) 3) $$ Hrec
  ihave #Hr7 := (records_reached X W K (dv c 3) 7) $$ Hrec
  ihave Hcw := (cw_split c 1 _) $$ Hcw
  icases Hcw with ⟨Hcwl, Hcw⟩
  ihave Hcc := (cc_split c 1 _) $$ Hcc
  icases Hcc with ⟨Hccl, Hcc⟩
  iapply (send_cw X W K c 2 3 0 0 6 1 0 (wL W (dv c 3)) (d := (dv c 1)) (dev7_eq c) rfl _ rfl _ rfl rfl (by revert c; decide) (by revert c; decide) rfl rfl rfl (Fr := reached ER (cell c 0) 2) (ring_pay X W c 2 0 false (by decide) (by decide)) (land_cw1 X W c)) $$ Hrec Hcwl Hcwp Hr Ho Hts2 Hr2 Htr3 Hr3
  iintro ⟨Hc2, Ho⟩
  iapply (send_cc X W K c 6 7 0 0 7 1 0 (wR W (dv c 1)) (d := (dv c 3)) (dev8_eq c) rfl _ rfl _ rfl rfl (by revert c; decide) (by revert c; decide) rfl rfl rfl (Fr := reached ER (cell c 0) 2) (ring_pay X W c 6 0 false (by decide) (by decide)) (land_cc1 X W c)) $$ Hrec Hccl Hccp Hr Ho Hts6 Hr6 Htr7 Hr7
  iintro ⟨Hc6, Ho⟩
  rw [wp_ret]; imodintro
  iapply Hk
  isplitl [Ho]; · iexact Ho
  isplitl [Ha]; · iexact Ha
  isplitl [Hi]; · iexact Hi
  isplitl [Hcw]; · iexact Hcw
  isplitl [Hcc]; · iexact Hcc
  isplitl [Hc2]; · iexact Hc2
  iexact Hc6

/-- Step 1: the tile halves for the weights of both neighbours. -/
theorem part6_spec (v2 v136 : BitVec 32) {Q : _ → sProp 𝕄} :
    records X W K ⊢ iprop(cw c 1 fullShare.right (spread (wL W (dv c 3))) -∗
      cc c 1 fullShare.right (spread (wR W (dv c 1))) -∗
      hold (F := F) c cc0_scratch0 (xb X c) -∗
      yb X W c 1 1 -∗
      ((cw c 1 fullShare.right (spread (wL W (dv c 3))) ∗ cc c 1 fullShare.right (spread (wR W (dv c 1))) ∗ hold (F := F) c cc0_scratch0 (xb X c) ∗ yb X W c 2 2) -∗ Q (m1 X W c)) -∗
      wp frame (wpE (defs₀ (F := F)) 𝒱₀ (c : Thread nD τ) none) Set.univ (P6 (F := F) c v2 (m0 X W c) v136) Q) := by
  unfold P6
  simp only [k0_part6_eq_skeleton]
  unfold k0_part6_skel
  simp only [semSignalWord, semWaitWord, Prog.lift, Prog.bind_op, Prog.bind_ret, Prog.pure_eq_ret, Prog.bind_assoc, wp_deviceId]
  unfold m1
  iintro #Hrec Hcw Hcc Hxb HY Hk
  iapply (load_cw_step c rfl _ (wL W (dv c 3))) $$ Hcw
  iintro Hcw
  iapply (load_xb_step c (xb X c)) $$ Hxb
  iintro Hxb
  iapply (peek_y_step X W c) $$ HY
  iintro %v HY
  clear v
  iapply (store_y_left X W c (dv c 3) (yl_1 c) (off1_1 c) _ rfl) $$ HY
  iintro HY
  iapply (load_cc_step c rfl _ (wR W (dv c 1))) $$ Hcc
  iintro Hcc
  iapply (load_xb_step c (xb X c)) $$ Hxb
  iintro Hxb
  iapply (peek_y_step X W c) $$ HY
  iintro %v HY
  clear v
  iapply (store_y_right X W c (dv c 1) (yr_1 c) (off2_1 c) _ rfl) $$ HY
  iintro HY
  rw [wp_ret]; imodintro
  iapply Hk
  isplitl [Hcw]; · iexact Hcw
  isplitl [Hcc]; · iexact Hcc
  isplitl [Hxb]; · iexact Hxb
  iexact HY

/-- The waits of hop 1, but one. -/
theorem part7_spec (v5 v7 : BitVec 32) {Q : _ → sProp 𝕄} :
    records X W K ⊢ iprop(ow (F := F) c 8 -∗
      cw c 1 fullShare.right (spread (wL W (dv c 3))) -∗
      cc c 1 fullShare.right (spread (wR W (dv c 1))) -∗
      cred (tallyAt (cell c 2) 0 (amt 2)) -∗
      atPos ER (cell c 2) 0 ∅ 0 -∗
      cred (tallyAt (cell c 3) 0 (amt 3)) -∗
      atPos ER (cell c 3) 0 ∅ 0 -∗
      cred (tallyAt (cell c 6) 0 (amt 6)) -∗
      atPos ER (cell c 6) 0 ∅ 0 -∗
      ((ow (F := F) c 8 ∗ cw c 1 fullShare (spread (wL W (dv c 3))) ∗ cc c 1 fullShare (spread (wR W (dv c 1))) ∗ cw c 0 fullShare (spread (wL W (dv c 2))) ∗ reached ER (cell (dv c 3) 0) 2 ∗ atPos ER (cell c 2) 1 ∅ 0 ∗ atPos ER (cell c 3) 1 ∅ 0 ∗ atPos ER (cell c 6) 1 ∅ 0) -∗ Q ⟨⟩) -∗
      wp frame (wpE (defs₀ (F := F)) 𝒱₀ (c : Thread nD τ) none) Set.univ (P7 (F := F) v5 v7) Q) := by
  unfold P7
  simp only [k0_part7_eq_skeleton]
  unfold k0_part7_skel
  simp only [semSignalWord, semWaitWord, Prog.lift, Prog.bind_op, Prog.bind_ret, Prog.pure_eq_ret, Prog.bind_assoc, wp_deviceId]
  iintro #Hrec Ho Hcw Hcc Hc2 Ha2 Hc3 Ha3 Hc6 Ha6 Hk
  iapply (wait_copy X W K c 2 0 8 (P := iprop(cw c 1 shH (spread (wL W (dv c 3))))) (ring_pay X W c 2 0 false (by decide) (by decide)) (wpE_waitDma2_eq 𝒱₀ (c : Thread nD τ) none Set.univ) rfl rfl (by revert c; decide) (by decide) (by revert c; decide)) $$ Hrec Hc2 Ho Ha2
  iintro ⟨Ho, Ha2, #Hr2, Hcwl⟩
  iapply (wait_copy X W K c 3 0 8 (P := iprop(cw c 0 fullShare (spread (wL W (dv c 2))) ∗ reached ER (cell (dv c 3) 0) 2)) (ring_pay X W c 3 0 false (by decide) (by decide)) (wpE_waitDma2_eq 𝒱₀ (c : Thread nD τ) none Set.univ) rfl rfl (by revert c; decide) (by decide) (by revert c; decide)) $$ Hrec Hc3 Ho Ha3
  iintro ⟨Ho, Ha3, #Hr3, ⟨Hcw0, #HrL⟩⟩
  iapply (wait_copy X W K c 6 0 8 (P := iprop(cc c 1 shH (spread (wR W (dv c 1))))) (ring_pay X W c 6 0 false (by decide) (by decide)) (wpE_waitDma2_eq 𝒱₀ (c : Thread nD τ) none Set.univ) rfl rfl (by revert c; decide) (by decide) (by revert c; decide)) $$ Hrec Hc6 Ho Ha6
  iintro ⟨Ho, Ha6, #Hr6, Hccl⟩
  ihave Hcw := (cw_join c 1 _) $$ [Hcwl Hcw]
  · isplitl [Hcwl] <;> iassumption
  ihave Hcc := (cc_join c 1 _) $$ [Hccl Hcc]
  · isplitl [Hccl] <;> iassumption
  rw [wp_ret]; imodintro
  iapply Hk
  isplitl [Ho]; · iexact Ho
  isplitl [Hcw]; · iexact Hcw
  isplitl [Hcc]; · iexact Hcc
  isplitl [Hcw0]; · iexact Hcw0
  isplitr; · iexact HrL
  isplitl [Ha2]; · iexact Ha2
  isplitl [Ha3]; · iexact Ha3
  iexact Ha6

end Cert.RingQuant

end
-- ==== Proof.HopTwo.lean ====
/-
Hop 2: both neighbours learn that slot 1 is free, slot 0 goes on to their slot 1, and the rows are multiplied by the
opposite device's weights; then by the weights hop 2 brings, the left half here.
-/
module

public import proofs.«01_k».proof.Proof.PartFacts

@[expose] public section

set_option maxRecDepth 65536

noncomputable section

namespace Cert.RingQuant

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S1024x4096 .bf16) (W : Dev nD → Vec F S4096x512 .bf16)
variable (K : Dev nD × Fin 23 → ℕ) (c : Dev nD)

/-- The last wait of hop 1, the third round of the barrier, and hop 2 starts clockwise. -/
theorem part8_spec (v5 v7 : BitVec 32) {Q : _ → sProp 𝕄} :
    records X W K ⊢ iprop(ow (F := F) c 8 -∗
      cred (tallyAt (cell c 7) 0 (amt 7)) -∗
      atPos ER (cell c 7) 0 ∅ 0 -∗
      dutyTok ER (cell (dv c 3) 0) 2 true -∗
      dutyTok ER (cell (dv c 1) 0) 2 false -∗
      reached ER (cell (dv c 3) 0) 2 -∗
      cw c 1 fullShare (spread (wL W (dv c 3))) -∗
      cc c 1 fullShare (spread (wR W (dv c 1))) -∗
      reached ER (cell c 4) 1 -∗
      reached ER (cell c 8) 1 -∗
      cred (tallyAt (cell c 0) 2 2) -∗
      atPos ER (cell c 0) 2 ∅ 0 -∗
      cw c 0 fullShare (spread (wL W (dv c 2))) -∗
      dutyTok ER (cell c 1) 1 false -∗
      reached ER (cell c 1) 1 -∗
      dutyTok ER (cell (dv c 1) 4) 1 false -∗
      ((ow (F := F) c 11 ∗ atPos ER (cell c 7) 1 ∅ 0 ∗ atPos ER (cell c 0) 3 ∅ 0 ∗ cw c 0 fullShare.right (spread (wL W (dv c 2))) ∗ cc c 0 fullShare (spread (wR W (dv c 2))) ∗ (∃ f, cc (F := F) (dv c 3) 1 fullShare f) ∗ reached ER (cell (dv c 3) 8) 1 ∗ cred (tallyAt (cell c 1) 1 (amt 1))) -∗ Q ⟨⟩) -∗
      wp frame (wpE (defs₀ (F := F)) 𝒱₀ (c : Thread nD τ) none) Set.univ (P8 (F := F) c v5 v7 (SemArray.scalar (sig.barrier 0 rfl))) Q) := by
  unfold P8
  simp only [k0_part8_eq_skeleton]
  unfold k0_part8_skel
  simp only [semSignalWord, semWaitWord, Prog.lift, Prog.bind_op, Prog.bind_ret, Prog.pure_eq_ret, Prog.bind_assoc, wp_deviceId]
  iintro #Hrec Ho Hc7 Ha7 Ht1 Ht2 #Hrl Hcw1 Hcc1 #Hr4 #Hr8 Hc Ha Hcw Hts1 #Hr1 Htr4 Hk
  iapply (wait_copy X W K c 7 0 8 (P := iprop(cc c 0 fullShare (spread (wR W (dv c 2))) ∗ reached ER (cell (dv c 1) 0) 2)) (ring_pay X W c 7 0 false (by decide) (by decide)) (wpE_waitDma2_eq 𝒱₀ (c : Thread nD τ) none Set.univ) rfl rfl (by revert c; decide) (by decide) (by revert c; decide)) $$ Hrec Hc7 Ho Ha7
  iintro ⟨Ho, Ha7, #Hr7, ⟨Hcc, #Hrr⟩⟩
  iapply (signal_step X W K c 8 2 true (dev9_eq c) rfl (by decide) (bar_l2 c) rfl) $$ Hrec Ho Ht1 Hrl [Hcw1]
  · isplitl [Hcw1]
    · iexists _; iexact Hcw1
    iexact Hr4
  iintro Ho
  iapply (signal_step X W K c 9 2 false (dev10_eq c) rfl (by decide) (bar_r2 c) rfl) $$ Hrec Ho Ht2 Hrr [Hcc1]
  · isplitl [Hcc1]
    · iexists _; iexact Hcc1
    iexact Hr8
  iintro Ho
  iapply (wait_bar X W K c 2 10 (own_l2 c) (own_r2 c) rfl (by decide) (by revert c; decide)) $$ Hrec Hc Ho Ha
  iintro ⟨Ho, Ha, #Hr, ⟨Hccp, #HrL⟩, ⟨Hcwp, #HrR⟩⟩
  ihave Hcw := (cw_split c 0 _) $$ Hcw
  icases Hcw with ⟨Hcwl, Hcw⟩
  iapply (send_cw X W K c 1 4 1 1 10 0 1 (wL W (dv c 2)) (d := (dv c 1)) (dev11_eq c) rfl _ rfl _ rfl rfl (by revert c; decide) (by revert c; decide) rfl rfl rfl (Fr := iprop(emp)) (ring_pay X W c 1 1 false (by decide) (by decide)) (land_cw2 X W c)) $$ Hrec Hcwl Hcwp [] Ho Hts1 Hr1 Htr4 HrR
  · iempintro
  iintro ⟨Hc1, Ho⟩
  rw [wp_ret]; imodintro
  iapply Hk
  isplitl [Ho]; · iexact Ho
  isplitl [Ha7]; · iexact Ha7
  isplitl [Ha]; · iexact Ha
  isplitl [Hcw]; · iexact Hcw
  isplitl [Hcc]; · iexact Hcc
  isplitl [Hccp]; · iexact Hccp
  isplitr; · iexact HrL
  iexact Hc1

/-- Hop 2 starts counter-clockwise; step 2 for the opposite device. -/
theorem part9_spec (v2 : BitVec 32) {Q : _ → sProp 𝕄} :
    records X W K ⊢ iprop(ow (F := F) c 11 -∗
      cc c 0 fullShare (spread (wR W (dv c 2))) -∗
      (∃ f, cc (F := F) (dv c 3) 1 fullShare f) -∗
      dutyTok ER (cell c 5) 1 false -∗
      reached ER (cell c 5) 1 -∗
      dutyTok ER (cell (dv c 3) 8) 1 false -∗
      reached ER (cell (dv c 3) 8) 1 -∗
      cw c 0 fullShare.right (spread (wL W (dv c 2))) -∗
      hold (F := F) c cc0_scratch0 (xb X c) -∗
      yb X W c 2 2 -∗
      ((ow (F := F) c 12 ∗ cc c 0 fullShare.right (spread (wR W (dv c 2))) ∗ cred (tallyAt (cell c 5) 1 (amt 5)) ∗ cw c 0 fullShare.right (spread (wL W (dv c 2))) ∗ hold (F := F) c cc0_scratch0 (xb X c) ∗ yb X W c 3 2) -∗ Q ⟨k0_pay17 (m1 X W c) (wL W (dv c 2)) (xb X c), k0_pay18 (wR W (dv c 2)) (xb X c), k0_pay19 (wR W (dv c 2)) (xb X c)⟩) -∗
      wp frame (wpE (defs₀ (F := F)) 𝒱₀ (c : Thread nD τ) none) Set.univ (P9 (F := F) c v2 (m1 X W c)) Q) := by
  unfold P9
  simp only [k0_part9_eq_skeleton]
  unfold k0_part9_skel
  simp only [semSignalWord, semWaitWord, Prog.lift, Prog.bind_op, Prog.bind_ret, Prog.pure_eq_ret, Prog.bind_assoc, wp_deviceId]
  iintro #Hrec Ho Hcc Hccp Hts5 #Hr5 Htr8 #HrL Hcw Hxb HY Hk
  ihave Hcc := (cc_split c 0 _) $$ Hcc
  icases Hcc with ⟨Hccl, Hcc⟩
  iapply (send_cc X W K c 5 8 1 1 11 0 1 (wR W (dv c 2)) (d := (dv c 3)) (dev12_eq c) rfl _ rfl _ rfl rfl (by revert c; decide) (by revert c; decide) rfl rfl rfl (Fr := iprop(emp)) (ring_pay X W c 5 1 false (by decide) (by decide)) (land_cc2 X W c)) $$ Hrec Hccl Hccp [] Ho Hts5 Hr5 Htr8 HrL
  · iempintro
  iintro ⟨Hc5, Ho⟩
  iapply (load_cw_step c rfl _ (wL W (dv c 2))) $$ Hcw
  iintro Hcw
  iapply (load_xb_step c (xb X c)) $$ Hxb
  iintro Hxb
  iapply (peek_y_step X W c) $$ HY
  iintro %v HY
  clear v
  iapply (store_y_left X W c (dv c 2) (yl_2 c) (off1_2 c) _ rfl) $$ HY
  iintro HY
  iapply (load_cc_step c rfl _ (wR W (dv c 2))) $$ Hcc
  iintro Hcc
  iapply (load_xb_step c (xb X c)) $$ Hxb
  iintro Hxb
  iapply (peek_y_step X W c) $$ HY
  iintro %v HY
  clear v
  rw [wp_ret]; imodintro
  iapply Hk
  isplitl [Ho]; · iexact Ho
  isplitl [Hcc]; · iexact Hcc
  isplitl [Hc5]; · iexact Hc5
  isplitl [Hcw]; · iexact Hcw
  isplitl [Hxb]; · iexact Hxb
  iexact HY

/-- The right half is stored; the waits of hop 2, but one. -/
theorem part10_spec (v7 : BitVec 32) {Q : _ → sProp 𝕄} :
    records X W K ⊢ iprop(ow (F := F) c 12 -∗
      yb X W c 3 2 -∗
      cw c 0 fullShare.right (spread (wL W (dv c 2))) -∗
      cc c 0 fullShare.right (spread (wR W (dv c 2))) -∗
      cred (tallyAt (cell c 1) 1 (amt 1)) -∗
      atPos ER (cell c 1) 1 ∅ 0 -∗
      cred (tallyAt (cell c 4) 1 (amt 4)) -∗
      atPos ER (cell c 4) 1 ∅ 0 -∗
      cred (tallyAt (cell c 5) 1 (amt 5)) -∗
      atPos ER (cell c 5) 1 ∅ 0 -∗
      ((ow (F := F) c 12 ∗ yb X W c 3 3 ∗ cw c 0 fullShare (spread (wL W (dv c 2))) ∗ cc c 0 fullShare (spread (wR W (dv c 2))) ∗ cw c 1 fullShare (spread (wL W (dv c 1))) ∗ atPos ER (cell c 1) 2 ∅ 0 ∗ atPos ER (cell c 4) 2 ∅ 0 ∗ atPos ER (cell c 5) 2 ∅ 0) -∗ Q (m2 X W c)) -∗
      wp frame (wpE (defs₀ (F := F)) 𝒱₀ (c : Thread nD τ) none) Set.univ (P10 (F := F) c v7 (k0_pay17 (m1 X W c) (wL W (dv c 2)) (xb X c)) (k0_pay18 (wR W (dv c 2)) (xb X c)) (k0_pay19 (wR W (dv c 2)) (xb X c))) Q) := by
  unfold P10
  simp only [k0_part10_eq_skeleton]
  unfold k0_part10_skel
  simp only [semSignalWord, semWaitWord, Prog.lift, Prog.bind_op, Prog.bind_ret, Prog.pure_eq_ret, Prog.bind_assoc, wp_deviceId]
  unfold m2
  iintro #Hrec Ho HY Hcw Hcc Hc1 Ha1 Hc4 Ha4 Hc5 Ha5 Hk
  iapply (store_y_right X W c (dv c 2) (yr_2 c) (off2_2 c) _ rfl) $$ HY
  iintro HY
  iapply (wait_copy X W K c 1 1 12 (P := iprop(cw c 0 shH (spread (wL W (dv c 2))))) (ring_pay X W c 1 1 false (by decide) (by decide)) (wpE_waitDma2_eq 𝒱₀ (c : Thread nD τ) none Set.univ) rfl rfl (by revert c; decide) (by decide) (by revert c; decide)) $$ Hrec Hc1 Ho Ha1
  iintro ⟨Ho, Ha1, #Hr1, Hcwl⟩
  iapply (wait_copy X W K c 4 1 12 (P := iprop(cw c 1 fullShare (spread (wL W (dv c 1))))) (ring_pay X W c 4 1 false (by decide) (by decide)) (wpE_waitDma2_eq 𝒱₀ (c : Thread nD τ) none Set.univ) rfl rfl (by revert c; decide) (by decide) (by revert c; decide)) $$ Hrec Hc4 Ho Ha4
  iintro ⟨Ho, Ha4, #Hr4, Hcw1⟩
  iapply (wait_copy X W K c 5 1 12 (P := iprop(cc c 0 shH (spread (wR W (dv c 2))))) (ring_pay X W c 5 1 false (by decide) (by decide)) (wpE_waitDma2_eq 𝒱₀ (c : Thread nD τ) none Set.univ) rfl rfl (by revert c; decide) (by decide) (by revert c; decide)) $$ Hrec Hc5 Ho Ha5
  iintro ⟨Ho, Ha5, #Hr5, Hccl⟩
  ihave Hcw := (cw_join c 0 _) $$ [Hcwl Hcw]
  · isplitl [Hcwl] <;> iassumption
  ihave Hcc := (cc_join c 0 _) $$ [Hccl Hcc]
  · isplitl [Hccl] <;> iassumption
  rw [wp_ret]; imodintro
  iapply Hk
  isplitl [Ho]; · iexact Ho
  isplitl [HY]; · iexact HY
  isplitl [Hcw]; · iexact Hcw
  isplitl [Hcc]; · iexact Hcc
  isplitl [Hcw1]; · iexact Hcw1
  isplitl [Ha1]; · iexact Ha1
  isplitl [Ha4]; · iexact Ha4
  iexact Ha5

/-- The last wait of hop 2; step 3, left half. -/
theorem part11_spec (v2 v5 : BitVec 32) {Q : _ → sProp 𝕄} :
    records X W K ⊢ iprop(ow (F := F) c 12 -∗
      cred (tallyAt (cell c 8) 1 (amt 8)) -∗
      atPos ER (cell c 8) 1 ∅ 0 -∗
      cw c 1 fullShare (spread (wL W (dv c 1))) -∗
      hold (F := F) c cc0_scratch0 (xb X c) -∗
      yb X W c 3 3 -∗
      (∀ v304, (ow (F := F) c 12 ∗ atPos ER (cell c 8) 2 ∅ 0 ∗ cw c 1 fullShare (spread (wL W (dv c 1))) ∗ cc c 1 fullShare (spread (wR W (dv c 3))) ∗ hold (F := F) c cc0_scratch0 (xb X c) ∗ yb X W c 4 3) -∗ Q ⟨k0_pay23 (m2 X W c) (wL W (dv c 1)) (xb X c), v304, k0_pay24 (wR W (dv c 3))⟩) -∗
      wp frame (wpE (defs₀ (F := F)) 𝒱₀ (c : Thread nD τ) none) Set.univ (P11 (F := F) c v2 v5 (m2 X W c)) Q) := by
  unfold P11
  simp only [k0_part11_eq_skeleton]
  unfold k0_part11_skel
  simp only [semSignalWord, semWaitWord, Prog.lift, Prog.bind_op, Prog.bind_ret, Prog.pure_eq_ret, Prog.bind_assoc, wp_deviceId]
  iintro #Hrec Ho Hc8 Ha8 Hcw Hxb HY Hk
  iapply (wait_copy X W K c 8 1 12 (P := iprop(cc c 1 fullShare (spread (wR W (dv c 3))))) (ring_pay X W c 8 1 false (by decide) (by decide)) (wpE_waitDma2_eq 𝒱₀ (c : Thread nD τ) none Set.univ) rfl rfl (by revert c; decide) (by decide) (by revert c; decide)) $$ Hrec Hc8 Ho Ha8
  iintro ⟨Ho, Ha8, #Hr8, Hcc⟩
  iapply (load_cw_step c rfl _ (wL W (dv c 1))) $$ Hcw
  iintro Hcw
  iapply (load_xb_step c (xb X c)) $$ Hxb
  iintro Hxb
  iapply (peek_y_step X W c) $$ HY
  iintro %v HY
  clear v
  iapply (store_y_left X W c (dv c 1) (yl_3 c) (off1_3 c) _ rfl) $$ HY
  iintro HY
  iapply (load_cc_step c rfl _ (wR W (dv c 3))) $$ Hcc
  iintro Hcc
  rw [wp_ret]; imodintro
  iapply Hk
  isplitl [Ho]; · iexact Ho
  isplitl [Ha8]; · iexact Ha8
  isplitl [Hcw]; · iexact Hcw
  isplitl [Hcc]; · iexact Hcc
  isplitl [Hxb]; · iexact Hxb
  iexact HY

end Cert.RingQuant

end
-- ==== Proof.Maxima.lean ====
/-
Step 3's right half, then the maxima: every device sends its own to the three others and folds theirs in, which gives
the scale of the quantiser and its inverse.
-/
module

public import proofs.«01_k».proof.Proof.PartFacts

@[expose] public section

set_option maxRecDepth 65536

noncomputable section

namespace Cert.RingQuant

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S1024x4096 .bf16) (W : Dev nD → Vec F S4096x512 .bf16)
variable (K : Dev nD × Fin 23 → ℕ) (c : Dev nD)

/-- Step 3's right half; the maximum is put in its block and sent to the right neighbour. -/
theorem part12_spec (v2 v304 : BitVec 32) {Q : _ → sProp 𝕄} :
    records X W K ⊢ iprop(ow (F := F) c 12 -∗
      hold (F := F) c cc0_scratch0 (xb X c) -∗
      yb X W c 4 3 -∗
      (∃ f, asr (F := F) c fullShare f) -∗
      (∃ f, ad (F := F) (dv c 1) c.val f) -∗
      dutyTok ER (cell c 16) 0 false -∗
      dutyTok ER (cell (dv c 1) (aR c)) 0 false -∗
      ((ow (F := F) c 13 ∗ hold (F := F) c cc0_scratch0 (xb X c) ∗ yb X W c 4 4 ∗ cred (tallyAt (cell c 16) 0 (amt 16)) ∗ asr c (shA 1) (fun _ => m3 X W c) ∗ asr c (shA 2) (fun _ => m3 X W c)) -∗ Q (m3 X W c)) -∗
      wp frame (wpE (defs₀ (F := F)) 𝒱₀ (c : Thread nD τ) none) Set.univ (P12 (F := F) c v2 (k0_pay23 (m2 X W c) (wL W (dv c 1)) (xb X c)) v304 (k0_pay24 (wR W (dv c 3)))) Q) := by
  unfold P12
  simp only [k0_part12_eq_skeleton]
  unfold k0_part12_skel
  simp only [semSignalWord, semWaitWord, Prog.lift, Prog.bind_op, Prog.bind_ret, Prog.pure_eq_ret, Prog.bind_assoc, wp_deviceId]
  unfold m3
  iintro #Hrec Ho Hxb HY Has Had Ht1 Ht2 Hk
  iapply (load_xb_step c (xb X c)) $$ Hxb
  iintro Hxb
  iapply (peek_y_step X W c) $$ HY
  iintro %v HY
  clear v
  iapply (store_y_right X W c (dv c 3) (yr_3 c) (off2_3 c) _ rfl) $$ HY
  iintro HY
  iapply (peek_as_step c) $$ Has
  iintro %v Has
  clear v
  iapply (store_as_step c (m3 X W c) (pay28_eq X W c)) $$ Has
  iintro Has
  ihave Has := (asr_split c _) $$ Has
  icases Has with ⟨Ha0, Ha1, Ha2⟩
  iapply (send_a X W K c 16 12 (shA 0) (d := (dv c 1)) (dev13_eq c) (ne_1 c).symm (off4_0 c) _ rfl (off3_sem_a c) (by revert c; decide) (by revert c; decide) (amt_aR c).symm (amt_aR c).symm rfl rfl) $$ Hrec Ha0 Had Ho Ht1 Ht2
  iintro ⟨Hc, Ho⟩
  rw [wp_ret]; imodintro
  iapply Hk
  isplitl [Ho]; · iexact Ho
  isplitl [Hxb]; · iexact Hxb
  isplitl [HY]; · iexact HY
  isplitl [Hc]; · iexact Hc
  isplitl [Ha1]; · iexact Ha1
  iexact Ha2

/-- The maximum goes to the two other devices; the right neighbour's arrives. -/
theorem part13_spec (v2 : BitVec 32) {Q : _ → sProp 𝕄} :
    records X W K ⊢ iprop(ow (F := F) c 13 -∗
      asr c (shA 1) (fun _ => m3 X W c) -∗
      asr c (shA 2) (fun _ => m3 X W c) -∗
      (∃ f, ad (F := F) (dv c 2) c.val f) -∗
      (∃ f, ad (F := F) (dv c 3) c.val f) -∗
      dutyTok ER (cell c 17) 0 false -∗
      dutyTok ER (cell (dv c 2) (aR c)) 0 false -∗
      dutyTok ER (cell c 18) 0 false -∗
      dutyTok ER (cell (dv c 3) (aR c)) 0 false -∗
      cred (tallyAt (cell c (aR (dv c 1))) 0 (amt (aR (dv c 1)))) -∗
      atPos ER (cell c (aR (dv c 1))) 0 ∅ 0 -∗
      (∀ v371, (ow (F := F) c 15 ∗ cred (tallyAt (cell c 17) 0 (amt 17)) ∗ cred (tallyAt (cell c 18) 0 (amt 18)) ∗ atPos ER (cell c (aR (dv c 1))) 1 ∅ 0 ∗ ad c (dv c 1).val (spread (am X W (dv c 1)))) -∗ Q ⟨g1 X W c, v371⟩) -∗
      wp frame (wpE (defs₀ (F := F)) 𝒱₀ (c : Thread nD τ) none) Set.univ (P13 (F := F) c v2 (m3 X W c)) Q) := by
  unfold P13
  simp only [k0_part13_eq_skeleton]
  unfold k0_part13_skel
  simp only [semSignalWord, semWaitWord, Prog.lift, Prog.bind_op, Prog.bind_ret, Prog.pure_eq_ret, Prog.bind_assoc, wp_deviceId]
  unfold g1
  iintro #Hrec Ho Ha1 Ha2 Hd2 Hd3 Ht1 Ht2 Ht3 Ht4 Hc Ha Hk
  iapply (send_a X W K c 17 13 (shA 1) (d := (dv c 2)) (dev14_eq c) (ne_2 c).symm (off4_0 c) _ rfl (off3_sem_a c) (by revert c; decide) (by revert c; decide) (amt_aR c).symm (amt_aR c).symm rfl rfl) $$ Hrec Ha1 Hd2 Ho Ht1 Ht2
  iintro ⟨Hc1, Ho⟩
  iapply (send_a X W K c 18 14 (shA 2) (d := (dv c 3)) (dev15_eq c) (ne_3 c).symm (off4_0 c) _ rfl (off3_sem_a c) (by revert c; decide) (by revert c; decide) (amt_aR c).symm (amt_aR c).symm rfl rfl) $$ Hrec Ha2 Hd3 Ho Ht3 Ht4
  iintro ⟨Hc2, Ho⟩
  iapply (wait_copy X W K c (aR (dv c 1)) 0 15 (P := ad c (dv c 1).val (spread (am X W (dv c 1)))) (pay_aR X W c (dv c 1) false) (wpE_waitDma2_eq 𝒱₀ (c : Thread nD τ) none Set.univ) (off5_sem_a1 c) (amt_aR _).symm (by revert c; decide) (by decide) (by revert c; decide)) $$ Hrec Hc Ho Ha
  iintro ⟨Ho, Ha, -, Hd⟩
  iapply (load_ad_step X W c (off7_1 c) _ (dv c 1)) $$ Hd
  iintro Hd
  rw [wp_ret]; imodintro
  iapply Hk
  isplitl [Ho]; · iexact Ho
  isplitl [Hc1]; · iexact Hc1
  isplitl [Hc2]; · iexact Hc2
  isplitl [Ha]; · iexact Ha
  iexact Hd

/-- The other two maxima arrive: the scale, its inverse, and the first tile scaled. -/
theorem part14_spec (v2 v371 : BitVec 32) {Q : _ → sProp 𝕄} :
    records X W K ⊢ iprop(ow (F := F) c 15 -∗
      cred (tallyAt (cell c (aR (dv c 2))) 0 (amt (aR (dv c 2)))) -∗
      atPos ER (cell c (aR (dv c 2))) 0 ∅ 0 -∗
      cred (tallyAt (cell c (aR (dv c 3))) 0 (amt (aR (dv c 3)))) -∗
      atPos ER (cell c (aR (dv c 3))) 0 ∅ 0 -∗
      yb X W c 4 4 -∗
      (∀ v405, (ow (F := F) c 15 ∗ atPos ER (cell c (aR (dv c 2))) 1 ∅ 0 ∗ atPos ER (cell c (aR (dv c 3))) 1 ∅ 0 ∗ ad c (dv c 2).val (spread (am X W (dv c 2))) ∗ ad c (dv c 3).val (spread (am X W (dv c 3))) ∗ yb X W c 4 4) -∗ Q ⟨sc X W c, iv X W c, v405, (k0_pay33 (g1 X W c) (am X W (dv c 2)) (am X W (dv c 3)) (yt X W c (dv c 1))), (Scalar.ofBits .f32 0x42FE0000#32), k0_pay34 (F := F)⟩) -∗
      wp frame (wpE (defs₀ (F := F)) 𝒱₀ (c : Thread nD τ) none) Set.univ (P14 (F := F) c v2 (g1 X W c) v371) Q) := by
  unfold P14
  simp only [k0_part14_eq_skeleton]
  unfold k0_part14_skel
  simp only [semSignalWord, semWaitWord, Prog.lift, Prog.bind_op, Prog.bind_ret, Prog.pure_eq_ret, Prog.bind_assoc, wp_deviceId]
  unfold sc iv
  iintro #Hrec Ho Hc2 Ha2 Hc3 Ha3 HY Hk
  iapply (wait_copy X W K c (aR (dv c 2)) 0 15 (P := ad c (dv c 2).val (spread (am X W (dv c 2)))) (pay_aR X W c (dv c 2) false) (wpE_waitDma2_eq 𝒱₀ (c : Thread nD τ) none Set.univ) (off5_sem_a2 c) (amt_aR _).symm (by revert c; decide) (by decide) (by revert c; decide)) $$ Hrec Hc2 Ho Ha2
  iintro ⟨Ho, Ha2, -, Hd2⟩
  iapply (load_ad_step X W c (off7_2 c) _ (dv c 2)) $$ Hd2
  iintro Hd2
  iapply (wait_copy X W K c (aR (dv c 3)) 0 15 (P := ad c (dv c 3).val (spread (am X W (dv c 3)))) (pay_aR X W c (dv c 3) false) (wpE_waitDma2_eq 𝒱₀ (c : Thread nD τ) none Set.univ) (off5_sem_a3 c) (amt_aR _).symm (by revert c; decide) (by decide) (by revert c; decide)) $$ Hrec Hc3 Ho Ha3
  iintro ⟨Ho, Ha3, -, Hd3⟩
  iapply (load_ad_step X W c (off7_3 c) _ (dv c 3)) $$ Hd3
  iintro Hd3
  iapply (load_tile_step X W c (dv c 1) (off8_1 c) _) $$ HY
  iintro HY
  rw [wp_ret]; imodintro
  iapply Hk
  isplitl [Ho]; · iexact Ho
  isplitl [Ha2]; · iexact Ha2
  isplitl [Ha3]; · iexact Ha3
  isplitl [Hd2]; · iexact Hd2
  isplitl [Hd3]; · iexact Hd3
  iexact HY

end Cert.RingQuant

end
-- ==== Proof.Tiles.lean ====
/-
The tiles: each is quantised and sent to its owner; the device's own is scaled back in place, and the received ones as
they arrive. Then the waits for the sends.
-/
module

public import proofs.«01_k».proof.Proof.PartFacts

@[expose] public section

set_option maxRecDepth 65536

noncomputable section

namespace Cert.RingQuant

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S1024x4096 .bf16) (W : Dev nD → Vec F S4096x512 .bf16)
variable (K : Dev nD × Fin 23 → ℕ) (c : Dev nD)

/-- The first tile is sent, the second quantised. -/
theorem part15_spec (v2 v405 : BitVec 32) {Q : _ → sProp 𝕄} :
    records X W K ⊢ iprop(ow (F := F) c 15 -∗
      (∃ f, qs (F := F) c 0 f) -∗
      (∃ f, qs (F := F) c 1 f) -∗
      (∃ f, qr (F := F) (dv c 1) c.val f) -∗
      dutyTok ER (cell c 9) 0 false -∗
      dutyTok ER (cell (dv c 1) (tR c)) 0 false -∗
      yb X W c 4 4 -∗
      (∀ v446, (ow (F := F) c 16 ∗ cred (tallyAt (cell c 9) 0 (amt 9)) ∗ qs c 1 (spread (qt X W c (dv c 2))) ∗ yb X W c 4 4) -∗ Q v446) -∗
      wp frame (wpE (defs₀ (F := F)) 𝒱₀ (c : Thread nD τ) none) Set.univ (P15 (F := F) c v2 (iv X W c) v405 (k0_pay33 (g1 X W c) (am X W (dv c 2)) (am X W (dv c 3)) (yt X W c (dv c 1))) (Scalar.ofBits .f32 0x42FE0000#32) (k0_pay34 (F := F))) Q) := by
  unfold P15
  simp only [k0_part15_eq_skeleton]
  unfold k0_part15_skel
  simp only [semSignalWord, semWaitWord, Prog.lift, Prog.bind_op, Prog.bind_ret, Prog.pure_eq_ret, Prog.bind_assoc, wp_deviceId]
  iintro #Hrec Ho Hq0 Hq1 Hd Ht1 Ht2 HY Hk
  iapply (peek_qs_step c rfl _) $$ Hq0
  iintro %v Hq0
  clear v
  iapply (store_qs_step c rfl _ (qt X W c (dv c 1))) $$ Hq0
  iintro Hq0
  iapply (send_q X W K c 9 15 0 (d := (dv c 1)) (dev16_eq c) (ne_1 c).symm rfl _ (off9_0 c) _ rfl (off3_sem_t c) (by revert c; decide) (by revert c; decide) (amt_tR c).symm (amt_tR c).symm rfl rfl) $$ Hrec Hq0 Hd Ho Ht1 Ht2
  iintro ⟨Hc, Ho⟩
  iapply (load_tile_step X W c (dv c 2) (off8_2 c) _) $$ HY
  iintro HY
  iapply (peek_qs_step c rfl _) $$ Hq1
  iintro %v Hq1
  clear v
  iapply (store_qs_step c rfl _ (qt X W c (dv c 2))) $$ Hq1
  iintro Hq1
  rw [wp_ret]; imodintro
  iapply Hk
  isplitl [Ho]; · iexact Ho
  isplitl [Hc]; · iexact Hc
  isplitl [Hq1]; · iexact Hq1
  iexact HY

/-- The second and third tiles are sent. -/
theorem part16_spec (v2 v446 : BitVec 32) {Q : _ → sProp 𝕄} :
    records X W K ⊢ iprop(ow (F := F) c 16 -∗
      qs c 1 (spread (qt X W c (dv c 2))) -∗
      (∃ f, qs (F := F) c 2 f) -∗
      (∃ f, qr (F := F) (dv c 2) c.val f) -∗
      (∃ f, qr (F := F) (dv c 3) c.val f) -∗
      dutyTok ER (cell c 10) 0 false -∗
      dutyTok ER (cell (dv c 2) (tR c)) 0 false -∗
      dutyTok ER (cell c 11) 0 false -∗
      dutyTok ER (cell (dv c 3) (tR c)) 0 false -∗
      yb X W c 4 4 -∗
      ((ow (F := F) c 18 ∗ cred (tallyAt (cell c 10) 0 (amt 10)) ∗ cred (tallyAt (cell c 11) 0 (amt 11)) ∗ yb X W c 4 4) -∗ Q ⟨⟩) -∗
      wp frame (wpE (defs₀ (F := F)) 𝒱₀ (c : Thread nD τ) none) Set.univ (P16 (F := F) c v2 (iv X W c) v446) Q) := by
  unfold P16
  simp only [k0_part16_eq_skeleton]
  unfold k0_part16_skel
  simp only [semSignalWord, semWaitWord, Prog.lift, Prog.bind_op, Prog.bind_ret, Prog.pure_eq_ret, Prog.bind_assoc, wp_deviceId]
  iintro #Hrec Ho Hq1 Hq2 Hd2 Hd3 Ht1 Ht2 Ht3 Ht4 HY Hk
  iapply (send_q X W K c 10 16 1 (d := (dv c 2)) (dev17_eq c) (ne_2 c).symm rfl _ (off9_0 c) _ rfl (off3_sem_t c) (by revert c; decide) (by revert c; decide) (amt_tR c).symm (amt_tR c).symm rfl rfl) $$ Hrec Hq1 Hd2 Ho Ht1 Ht2
  iintro ⟨Hc1, Ho⟩
  iapply (load_tile_step X W c (dv c 3) (off8_3 c) _) $$ HY
  iintro HY
  iapply (peek_qs_step c rfl _) $$ Hq2
  iintro %v Hq2
  clear v
  iapply (store_qs_step c rfl _ (qt X W c (dv c 3))) $$ Hq2
  iintro Hq2
  iapply (send_q X W K c 11 17 2 (d := (dv c 3)) (dev18_eq c) (ne_3 c).symm rfl _ (off9_0 c) _ rfl (off3_sem_t c) (by revert c; decide) (by revert c; decide) (amt_tR c).symm (amt_tR c).symm rfl rfl) $$ Hrec Hq2 Hd3 Ho Ht3 Ht4
  iintro ⟨Hc2, Ho⟩
  rw [wp_ret]; imodintro
  iapply Hk
  isplitl [Ho]; · iexact Ho
  isplitl [Hc1]; · iexact Hc1
  isplitl [Hc2]; · iexact Hc2
  iexact HY

/-- The own tile's rows of the output, and the right neighbour's. -/
theorem part17_spec (v2 : BitVec 32) {Q : _ → sProp 𝕄} :
    records X W K ⊢ iprop(ow (F := F) c 18 -∗
      yb X W c 4 4 -∗
      ob X W c 0 -∗
      cred (tallyAt (cell c (tR (dv c 1))) 0 (amt (tR (dv c 1)))) -∗
      atPos ER (cell c (tR (dv c 1))) 0 ∅ 0 -∗
      ((ow (F := F) c 18 ∗ yb X W c 4 4 ∗ ob X W c 2 ∗ atPos ER (cell c (tR (dv c 1))) 1 ∅ 0 ∗ qr (F := F) c (dv c 1).val (spread (qt X W (dv c 1) c))) -∗ Q 2#32) -∗
      wp frame (wpE (defs₀ (F := F)) 𝒱₀ (c : Thread nD τ) none) Set.univ (P17 (F := F) c v2 (sc X W c) (iv X W c)) Q) := by
  unfold P17
  simp only [k0_part17_eq_skeleton]
  unfold k0_part17_skel
  simp only [semSignalWord, semWaitWord, Prog.lift, Prog.bind_op, Prog.bind_ret, Prog.pure_eq_ret, Prog.bind_assoc, wp_deviceId]
  iintro #Hrec Ho HY HO Hc Ha Hk
  iapply (load_tile_step X W c c (off10_0 c) _) $$ HY
  iintro HY
  iapply (peek_o_step X W c) $$ HO
  iintro %v HO
  clear v
  iapply (store_o_step X W c c (yr_0 c) (off11_0 c) _ (ot_self X W c).symm) $$ HO
  iintro HO
  iapply (wait_copy X W K c (tR (dv c 1)) 0 18 (P := qr (F := F) c (dv c 1).val (spread (qt X W (dv c 1) c))) (pay_tR X W c (dv c 1) false) (wpE_waitDma2_eq 𝒱₀ (c : Thread nD τ) none Set.univ) (off5_sem_t1 c) (amt_tR _).symm (by revert c; decide) (by decide) (by revert c; decide)) $$ Hrec Hc Ho Ha
  iintro ⟨Ho, Ha, -, Hq1⟩
  iapply (load_qr_step c (off8_1 c) _ (qt X W (dv c 1) c)) $$ Hq1
  iintro Hq1
  iapply (peek_o_step X W c) $$ HO
  iintro %v HO
  clear v
  iapply (store_o_step X W c (dv c 1) (yr_1 c) (off13_1 c) _ (ot_ne X W (ne_1 c)).symm) $$ HO
  iintro HO
  rw [wp_ret]; imodintro
  iapply Hk
  isplitl [Ho]; · iexact Ho
  isplitl [HY]; · iexact HY
  isplitl [HO]; · iexact HO
  isplitl [Ha]; · iexact Ha
  iexact Hq1

/-- The opposite device's rows, and the left neighbour's tile. -/
theorem part18_spec (v2 : BitVec 32) {Q : _ → sProp 𝕄} :
    records X W K ⊢ iprop(ow (F := F) c 18 -∗
      ob X W c 2 -∗
      cred (tallyAt (cell c (tR (dv c 2))) 0 (amt (tR (dv c 2)))) -∗
      atPos ER (cell c (tR (dv c 2))) 0 ∅ 0 -∗
      cred (tallyAt (cell c (tR (dv c 3))) 0 (amt (tR (dv c 3)))) -∗
      atPos ER (cell c (tR (dv c 3))) 0 ∅ 0 -∗
      (∀ v538, (ow (F := F) c 18 ∗ ob X W c 3 ∗ atPos ER (cell c (tR (dv c 2))) 1 ∅ 0 ∗ atPos ER (cell c (tR (dv c 3))) 1 ∅ 0 ∗ qr (F := F) c (dv c 2).val (spread (qt X W (dv c 2) c)) ∗ qr (F := F) c (dv c 3).val (spread (qt X W (dv c 3) c))) -∗ Q ⟨v538, k0_pay41 (F := F) (qt X W (dv c 3) c)⟩) -∗
      wp frame (wpE (defs₀ (F := F)) 𝒱₀ (c : Thread nD τ) none) Set.univ (P18 (F := F) c v2 (sc X W c) 2#32) Q) := by
  unfold P18
  simp only [k0_part18_eq_skeleton]
  unfold k0_part18_skel
  simp only [semSignalWord, semWaitWord, Prog.lift, Prog.bind_op, Prog.bind_ret, Prog.pure_eq_ret, Prog.bind_assoc, wp_deviceId]
  iintro #Hrec Ho HO Hc2 Ha2 Hc3 Ha3 Hk
  iapply (wait_copy X W K c (tR (dv c 2)) 0 18 (P := qr (F := F) c (dv c 2).val (spread (qt X W (dv c 2) c))) (pay_tR X W c (dv c 2) false) (wpE_waitDma2_eq 𝒱₀ (c : Thread nD τ) none Set.univ) (off5_sem_t2 c) (amt_tR _).symm (by revert c; decide) (by decide) (by revert c; decide)) $$ Hrec Hc2 Ho Ha2
  iintro ⟨Ho, Ha2, -, Hq2⟩
  iapply (load_qr_step c (off8_2 c) _ (qt X W (dv c 2) c)) $$ Hq2
  iintro Hq2
  iapply (peek_o_step X W c) $$ HO
  iintro %v HO
  clear v
  iapply (store_o_step X W c (dv c 2) (yr_2 c) (off13_2 c) _ ((pay40_eq X W c (dv c 2)).trans (ot_ne X W (ne_2 c)).symm)) $$ HO
  iintro HO
  iapply (wait_copy X W K c (tR (dv c 3)) 0 18 (P := qr (F := F) c (dv c 3).val (spread (qt X W (dv c 3) c))) (pay_tR X W c (dv c 3) false) (wpE_waitDma2_eq 𝒱₀ (c : Thread nD τ) none Set.univ) (off5_sem_t3 c) (amt_tR _).symm (by revert c; decide) (by decide) (by revert c; decide)) $$ Hrec Hc3 Ho Ha3
  iintro ⟨Ho, Ha3, -, Hq3⟩
  iapply (load_qr_step c (off8_3 c) _ (qt X W (dv c 3) c)) $$ Hq3
  iintro Hq3
  rw [wp_ret]; imodintro
  iapply Hk
  isplitl [Ho]; · iexact Ho
  isplitl [HO]; · iexact HO
  isplitl [Ha2]; · iexact Ha2
  isplitl [Ha3]; · iexact Ha3
  isplitl [Hq2]; · iexact Hq2
  iexact Hq3

/-- The left neighbour's rows; the waits for the maxima's sends and the first tile's. -/
theorem part19_spec (v538 : BitVec 32) {Q : _ → sProp 𝕄} :
    records X W K ⊢ iprop(ow (F := F) c 18 -∗
      ob X W c 3 -∗
      cred (tallyAt (cell c 16) 0 (amt 16)) -∗
      atPos ER (cell c 16) 0 ∅ 0 -∗
      cred (tallyAt (cell c 17) 0 (amt 17)) -∗
      atPos ER (cell c 17) 0 ∅ 0 -∗
      cred (tallyAt (cell c 18) 0 (amt 18)) -∗
      atPos ER (cell c 18) 0 ∅ 0 -∗
      cred (tallyAt (cell c 9) 0 (amt 9)) -∗
      atPos ER (cell c 9) 0 ∅ 0 -∗
      ((ow (F := F) c 18 ∗ ob X W c 4 ∗ atPos ER (cell c 16) 1 ∅ 0 ∗ atPos ER (cell c 17) 1 ∅ 0 ∗ atPos ER (cell c 18) 1 ∅ 0 ∗ atPos ER (cell c 9) 1 ∅ 0 ∗ asr c (shA 0) (fun _ => m3 X W c) ∗ asr c (shA 1) (fun _ => m3 X W c) ∗ asr c (shA 2) (fun _ => m3 X W c) ∗ qs c 0 (spread (qt X W c (dv c 1)))) -∗ Q ⟨⟩) -∗
      wp frame (wpE (defs₀ (F := F)) 𝒱₀ (c : Thread nD τ) none) Set.univ (P19 (F := F) c (sc X W c) v538 (k0_pay41 (F := F) (qt X W (dv c 3) c))) Q) := by
  unfold P19
  simp only [k0_part19_eq_skeleton]
  unfold k0_part19_skel
  simp only [semSignalWord, semWaitWord, Prog.lift, Prog.bind_op, Prog.bind_ret, Prog.pure_eq_ret, Prog.bind_assoc, wp_deviceId]
  iintro #Hrec Ho HO Hc16 Ha16 Hc17 Ha17 Hc18 Ha18 Hc9 Ha9 Hk
  iapply (peek_o_step X W c) $$ HO
  iintro %v HO
  clear v
  iapply (store_o_step X W c (dv c 3) (yr_3 c) (off13_3 c) _ ((pay42_eq X W c (dv c 3)).trans (ot_ne X W (ne_3 c)).symm)) $$ HO
  iintro HO
  iapply (wait_copy X W K c 16 0 18 (P := asr c (shA 0) (fun _ => m3 X W c)) rfl (wpE_waitDma2_eq 𝒱₀ (c : Thread nD τ) none Set.univ) rfl rfl (by revert c; decide) (by decide) (by revert c; decide)) $$ Hrec Hc16 Ho Ha16
  iintro ⟨Ho, Ha16, -, Hs0⟩
  iapply (wait_copy X W K c 17 0 18 (P := asr c (shA 1) (fun _ => m3 X W c)) rfl (wpE_waitDma2_eq 𝒱₀ (c : Thread nD τ) none Set.univ) rfl rfl (by revert c; decide) (by decide) (by revert c; decide)) $$ Hrec Hc17 Ho Ha17
  iintro ⟨Ho, Ha17, -, Hs1⟩
  iapply (wait_copy X W K c 18 0 18 (P := asr c (shA 2) (fun _ => m3 X W c)) rfl (wpE_waitDma2_eq 𝒱₀ (c : Thread nD τ) none Set.univ) rfl rfl (by revert c; decide) (by decide) (by revert c; decide)) $$ Hrec Hc18 Ho Ha18
  iintro ⟨Ho, Ha18, -, Hs2⟩
  iapply (wait_copy X W K c 9 0 18 (P := qs c 0 (spread (qt X W c (dv c 1)))) rfl (wpE_waitDma2_eq 𝒱₀ (c : Thread nD τ) none Set.univ) rfl rfl (by revert c; decide) (by decide) (by revert c; decide)) $$ Hrec Hc9 Ho Ha9
  iintro ⟨Ho, Ha9, -, Hq⟩
  rw [wp_ret]; imodintro
  iapply Hk
  isplitl [Ho]; · iexact Ho
  isplitl [HO]; · iexact HO
  isplitl [Ha16]; · iexact Ha16
  isplitl [Ha17]; · iexact Ha17
  isplitl [Ha18]; · iexact Ha18
  isplitl [Ha9]; · iexact Ha9
  isplitl [Hs0]; · iexact Hs0
  isplitl [Hs1]; · iexact Hs1
  isplitl [Hs2]; · iexact Hs2
  iexact Hq

end Cert.RingQuant

end
-- ==== Proof.Body.lean ====
/-
What a device holds when its body starts and when it ends: the tokens of its duties, its credits, its positions in its
cells, its buffers slot by slot. And the body, part after part.
-/
module

public import proofs.«01_k».proof.Proof.HopZero
public import proofs.«01_k».proof.Proof.HopOne
public import proofs.«01_k».proof.Proof.HopTwo
public import proofs.«01_k».proof.Proof.Maxima
public import proofs.«01_k».proof.Proof.Tiles

@[expose] public section

set_option maxRecDepth 65536

noncomputable section

namespace Cert.RingQuant

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S1024x4096 .bf16) (W : Dev nD → Vec F S4096x512 .bf16)
variable (K : Dev nD × Fin 23 → ℕ) (c : Dev nD)

/-! ## What a device holds -/

/-- The duties device `c` carries out: towards the others in program order, then its own sends' completions. -/
def dutyKey (c : Dev nD) : Fin 30 → Dev nD × Fin 23 × ℕ × Bool := ![
  ((dv c 3), 0, 0, true), ((dv c 1), 0, 0, false), ((dv c 1), 4, 0, false), ((dv c 3), 8, 0, false),
  ((dv c 3), 0, 1, true), ((dv c 1), 0, 1, false), ((dv c 1), 3, 0, false), ((dv c 3), 7, 0, false),
  ((dv c 3), 0, 2, true), ((dv c 1), 0, 2, false), ((dv c 1), 4, 1, false), ((dv c 3), 8, 1, false),
  ((dv c 1), (aR c), 0, false), ((dv c 2), (aR c), 0, false), ((dv c 3), (aR c), 0, false), ((dv c 1), (tR c), 0, false),
  ((dv c 2), (tR c), 0, false), ((dv c 3), (tR c), 0, false), (c, 1, 0, false), (c, 5, 0, false),
  (c, 2, 0, false), (c, 6, 0, false), (c, 1, 1, false), (c, 5, 1, false),
  (c, 16, 0, false), (c, 17, 0, false), (c, 18, 0, false), (c, 9, 0, false),
  (c, 10, 0, false), (c, 11, 0, false)]

/-- The token of a duty. -/
def keyTok (p : Dev nD × Fin 23 × ℕ × Bool) : sProp 𝕄 := dutyTok ER (cell p.1 p.2.1) p.2.2.1 p.2.2.2

/-- The tokens of device `c`'s duties. -/
def toks : sProp 𝕄 := bigSep Finset.univ fun j : Fin 30 => keyTok (F := F) (dutyKey c j)

theorem toks_eq : toks (F := F) c = iprop(
    dutyTok ER (cell (dv c 3) 0) 0 true ∗ dutyTok ER (cell (dv c 1) 0) 0 false ∗ dutyTok ER (cell (dv c 1) 4) 0 false ∗ dutyTok ER (cell (dv c 3) 8) 0 false
    ∗ dutyTok ER (cell (dv c 3) 0) 1 true ∗ dutyTok ER (cell (dv c 1) 0) 1 false ∗ dutyTok ER (cell (dv c 1) 3) 0 false ∗ dutyTok ER (cell (dv c 3) 7) 0 false
    ∗ dutyTok ER (cell (dv c 3) 0) 2 true ∗ dutyTok ER (cell (dv c 1) 0) 2 false ∗ dutyTok ER (cell (dv c 1) 4) 1 false ∗ dutyTok ER (cell (dv c 3) 8) 1 false
    ∗ dutyTok ER (cell (dv c 1) (aR c)) 0 false ∗ dutyTok ER (cell (dv c 2) (aR c)) 0 false ∗ dutyTok ER (cell (dv c 3) (aR c)) 0 false ∗ dutyTok ER (cell (dv c 1) (tR c)) 0 false
    ∗ dutyTok ER (cell (dv c 2) (tR c)) 0 false ∗ dutyTok ER (cell (dv c 3) (tR c)) 0 false ∗ dutyTok ER (cell c 1) 0 false ∗ dutyTok ER (cell c 5) 0 false
    ∗ dutyTok ER (cell c 2) 0 false ∗ dutyTok ER (cell c 6) 0 false ∗ dutyTok ER (cell c 1) 1 false ∗ dutyTok ER (cell c 5) 1 false
    ∗ dutyTok ER (cell c 16) 0 false ∗ dutyTok ER (cell c 17) 0 false ∗ dutyTok ER (cell c 18) 0 false ∗ dutyTok ER (cell c 9) 0 false
    ∗ dutyTok ER (cell c 10) 0 false ∗ dutyTok ER (cell c 11) 0 false) :=
  bigSep_univ_eq_bigSepL [(0 : Fin 30), (1 : Fin 30), (2 : Fin 30), (3 : Fin 30), (4 : Fin 30), (5 : Fin 30), (6 : Fin 30), (7 : Fin 30), (8 : Fin 30), (9 : Fin 30), (10 : Fin 30), (11 : Fin 30), (12 : Fin 30), (13 : Fin 30), (14 : Fin 30), (15 : Fin 30), (16 : Fin 30), (17 : Fin 30), (18 : Fin 30), (19 : Fin 30), (20 : Fin 30), (21 : Fin 30), (22 : Fin 30), (23 : Fin 30), (24 : Fin 30), (25 : Fin 30), (26 : Fin 30), (27 : Fin 30), (28 : Fin 30), (29 : Fin 30)] (by decide) (by decide) _

/-- The credits it waits with for what the others pay it. -/
def creds : sProp 𝕄 := iprop(
    cred (tallyAt (cell c 0) 0 2) ∗ cred (tallyAt (cell c 0) 1 2) ∗ cred (tallyAt (cell c 0) 2 2)
    ∗ cred (tallyAt (cell c 3) 0 (amt 3)) ∗ cred (tallyAt (cell c 4) 0 (amt 4)) ∗ cred (tallyAt (cell c 4) 1 (amt 4))
    ∗ cred (tallyAt (cell c 7) 0 (amt 7)) ∗ cred (tallyAt (cell c 8) 0 (amt 8)) ∗ cred (tallyAt (cell c 8) 1 (amt 8))
    ∗ cred (tallyAt (cell c (aR (dv c 1))) 0 (amt (aR (dv c 1)))) ∗ cred (tallyAt (cell c (aR (dv c 2))) 0 (amt (aR (dv c 2)))) ∗ cred (tallyAt (cell c (aR (dv c 3))) 0 (amt (aR (dv c 3))))
    ∗ cred (tallyAt (cell c (tR (dv c 1))) 0 (amt (tR (dv c 1)))) ∗ cred (tallyAt (cell c (tR (dv c 2))) 0 (amt (tR (dv c 2)))) ∗ cred (tallyAt (cell c (tR (dv c 3))) 0 (amt (tR (dv c 3)))))

/-- Its position in each of its cells: `n k` rounds of cell `k` are over. -/
def ats (n : Fin 23 → ℕ) : sProp 𝕄 := bigSep Finset.univ fun k : Fin 23 => atPos ER (cell c k) (n k) ∅ 0

/-- The cells, those that receive from the other devices named by the device. -/
def cellList (c : Dev nD) : List (Fin 23) :=
  [0, 1, 2, 3, 4, 5, 6, 7, 8, 9, 10, 11, 16, 17, 18, (tR c), (aR c), (tR (dv c 1)), (tR (dv c 2)), (tR (dv c 3)), (aR (dv c 1)), (aR (dv c 2)), (aR (dv c 3))]
theorem cellList_nodup : (cellList c).Nodup := by revert c; decide
theorem cellList_all : ∀ k : Fin 23, k ∈ cellList c := by revert c; decide

theorem ats_eq (n : Fin 23 → ℕ) : ats (F := F) c n = iprop(
    atPos ER (cell c 0) (n 0) ∅ 0 ∗ atPos ER (cell c 1) (n 1) ∅ 0 ∗ atPos ER (cell c 2) (n 2) ∅ 0 ∗ atPos ER (cell c 3) (n 3) ∅ 0
    ∗ atPos ER (cell c 4) (n 4) ∅ 0 ∗ atPos ER (cell c 5) (n 5) ∅ 0 ∗ atPos ER (cell c 6) (n 6) ∅ 0 ∗ atPos ER (cell c 7) (n 7) ∅ 0
    ∗ atPos ER (cell c 8) (n 8) ∅ 0 ∗ atPos ER (cell c 9) (n 9) ∅ 0 ∗ atPos ER (cell c 10) (n 10) ∅ 0 ∗ atPos ER (cell c 11) (n 11) ∅ 0
    ∗ atPos ER (cell c 16) (n 16) ∅ 0 ∗ atPos ER (cell c 17) (n 17) ∅ 0 ∗ atPos ER (cell c 18) (n 18) ∅ 0 ∗ atPos ER (cell c (tR c)) (n (tR c)) ∅ 0
    ∗ atPos ER (cell c (aR c)) (n (aR c)) ∅ 0 ∗ atPos ER (cell c (tR (dv c 1))) (n (tR (dv c 1))) ∅ 0 ∗ atPos ER (cell c (tR (dv c 2))) (n (tR (dv c 2))) ∅ 0 ∗ atPos ER (cell c (tR (dv c 3))) (n (tR (dv c 3))) ∅ 0
    ∗ atPos ER (cell c (aR (dv c 1))) (n (aR (dv c 1))) ∅ 0 ∗ atPos ER (cell c (aR (dv c 2))) (n (aR (dv c 2))) ∅ 0 ∗ atPos ER (cell c (aR (dv c 3))) (n (aR (dv c 3))) ∅ 0) :=
  bigSep_univ_eq_bigSepL (cellList c) (Finset.ext fun k => by simp [cellList_all c k]) (cellList_nodup c) _

theorem nr_list : (cellList c).map (nr c) = [3, 2, 1, 1, 2, 2, 1, 1, 2, 1, 1, 1, 1, 1, 1, 0, 0, 1, 1, 1, 1, 1, 1] := by revert c; decide

theorem ats_end : ats (F := F) c (nr c) = iprop(
    atPos ER (cell c 0) 3 ∅ 0 ∗ atPos ER (cell c 1) 2 ∅ 0 ∗ atPos ER (cell c 2) 1 ∅ 0 ∗ atPos ER (cell c 3) 1 ∅ 0
    ∗ atPos ER (cell c 4) 2 ∅ 0 ∗ atPos ER (cell c 5) 2 ∅ 0 ∗ atPos ER (cell c 6) 1 ∅ 0 ∗ atPos ER (cell c 7) 1 ∅ 0
    ∗ atPos ER (cell c 8) 2 ∅ 0 ∗ atPos ER (cell c 9) 1 ∅ 0 ∗ atPos ER (cell c 10) 1 ∅ 0 ∗ atPos ER (cell c 11) 1 ∅ 0
    ∗ atPos ER (cell c 16) 1 ∅ 0 ∗ atPos ER (cell c 17) 1 ∅ 0 ∗ atPos ER (cell c 18) 1 ∅ 0 ∗ atPos ER (cell c (tR c)) 0 ∅ 0
    ∗ atPos ER (cell c (aR c)) 0 ∅ 0 ∗ atPos ER (cell c (tR (dv c 1))) 1 ∅ 0 ∗ atPos ER (cell c (tR (dv c 2))) 1 ∅ 0 ∗ atPos ER (cell c (tR (dv c 3))) 1 ∅ 0
    ∗ atPos ER (cell c (aR (dv c 1))) 1 ∅ 0 ∗ atPos ER (cell c (aR (dv c 2))) 1 ∅ 0 ∗ atPos ER (cell c (aR (dv c 3))) 1 ∅ 0) := by
  have h := nr_list c
  simp only [cellList, List.map_cons, List.map_nil, List.cons.injEq, and_true] at h
  obtain ⟨h0, h1, h2, h3, h4, h5, h6, h7, h8, h9, h10, h11, h12, h13, h14, h15, h16, h17, h18, h19, h20, h21, h22⟩ := h
  rw [ats_eq]
  simp only [h0, h1, h2, h3, h4, h5, h6, h7, h8, h9, h10, h11, h12, h13, h14, h15, h16, h17, h18, h19, h20, h21, h22]

/-- The buffers of the kernel, slot by slot, at any contents. -/
def slots : sProp 𝕄 := iprop(
    (∃ f, hold (F := F) c cc0_scratch0 f) ∗ (∃ f, hold (F := F) c cc0_scratch1 f)
    ∗ (∃ f, qs (F := F) c 0 f) ∗ (∃ f, qs (F := F) c 1 f) ∗ (∃ f, qs (F := F) c 2 f)
    ∗ (∃ f, cw (F := F) c 0 fullShare f) ∗ (∃ f, cw (F := F) c 1 fullShare f)
    ∗ (∃ f, cc (F := F) c 0 fullShare f) ∗ (∃ f, cc (F := F) c 1 fullShare f)
    ∗ (∃ f, asr (F := F) c fullShare f)
    ∗ inbox (F := F) c (dv c 3) ∗ inbox (F := F) c (dv c 1) ∗ inbox (F := F) c (dv c 2) ∗ inbox (F := F) c c)

/-- The maximum's block, its three shares together again. -/
theorem asr_join (f : S8x128.Idx → F .f32) :
    iprop(asr c (shA 0) f ∗ asr c (shA 1) f ∗ asr c (shA 2) f) ⊢ asr (F := F) c fullShare f := by
  unfold asr
  iintro ⟨H0, H1, H2⟩
  ihave H := (pointsTo_share (PosShare.mem_left_op_right fullShare.right)).2 $$ [H1 H2]
  · isplitl [H1]; · iexact H1
    iexact H2
  iapply (pointsTo_share (PosShare.mem_left_op_right fullShare)).2
  isplitl [H0]; · iexact H0
  iexact H

/-! ## The body -/

abbrev theBody := cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (Memref.whole cc0_scratch7) (Memref.isWhole_whole _) cc0_scratch8 cc0_scratch9 cc0_scratch10 cc0_scratch11 (Memref.whole cc0_scratch12) (Memref.isWhole_whole _) (Memref.whole cc0_scratch13) (Memref.isWhole_whole _) cc0_scratch14 cc0_scratch15

set_option maxHeartbeats 4000000 in
/-- The body of device `c`, from its buffers at any contents to its output block: everything it holds at the end it held
    at the start, and every duty is done and every round waited for. -/
theorem body_spec {Q : PUnit → sProp 𝕄} :
    records X W K ⊢ iprop(ow (F := F) c 0 -∗ toks (F := F) c -∗ creds (F := F) c -∗ ats (F := F) c (fun _ => 0) -∗ slots (F := F) c
      -∗ hold (F := F) c cc0_stg0_0 (X c) -∗ hold (F := F) c cc0_stg1_0 (W c) -∗ (∃ f, hold (F := F) c cc0_stg2_0 f)
      -∗ ((ow (F := F) c 18 ∗ ats (F := F) c (nr c) ∗ slots (F := F) c ∗ hold (F := F) c cc0_stg0_0 (X c) ∗ hold (F := F) c cc0_stg1_0 (W c)
          ∗ hold (F := F) c cc0_stg2_0 (Out X W c)) -∗ Q ⟨⟩)
      -∗ wp frame (wpE (defs₀ (F := F)) 𝒱₀ (c : Thread nD τ) none) Set.univ (theBody (F := F)) Q) := by
  unfold theBody
  rw [cc0_body_eq_skeleton]
  unfold cc0_body_skel
  simp only [Prog.lift, Prog.bind_op, Prog.bind_ret, Prog.pure_eq_ret]
  rw [toks_eq, ats_end, ats_eq]
  unfold creds slots
  iintro #Hrec Ho ⟨T0, T1, T2, T3, T4, T5, T6, T7, T8, T9, T10, T11, T12, T13, T14, T15, T16, T17, T18, T19, T20, T21, T22, T23, T24, T25, T26, T27, T28, T29⟩ ⟨C0_0, C0_1, C0_2, C3_0, C4_0, C4_1, C7_0, C8_0, C8_1, Ca1, Ca2, Ca3, Ct1, Ct2, Ct3⟩ ⟨A0, A1, A2, A3, A4, A5, A6, A7, A8, A9, A10, A11, A16, A17, A18, Atc, Aac, At1, At2, At3, Aa1, Aa2, Aa3⟩ ⟨HXB, ⟨%fy, HY⟩, Hq0, Hq1, Hq2, Hw0, Hw1, Hv0, Hv1, Hs, HiL, HiR, HiO, Hic⟩ HX HW ⟨%fo, HO⟩ Hk
  rw [wp_bind]
  iapply (part1_spec X W K c) $$ Hrec Ho T0 T1 Hw1 Hv1 HiL HiR HiO C0_0 A0 HW Hw0 Hv0
  iintro %v2 %v5 %v7 %v23
  iintro ⟨Ho, A0, #Hr01, Hv1, HjL, HjLR, Hw1, HjR, HW, Hw0, Hv0⟩
  rw [wp_bind]
  iapply (part2_spec X W K c v2 v5 v23) $$ Hrec Ho Hw0 Hv0 Hw1 Hv1 Hr01 T18 T2 T19 T3 HX HXB
  iintro %v50
  iintro ⟨Ho, Hw0, Hv0, D1, D5, HX, HXB⟩
  ihave HY : iprop(yb X W c 0 0) $$ [HY]
  · unfold yb; iexists fy; isplitr; · (ipureintro; exact YGood_zero X W c fy)
    iexact HY
  rw [wp_bind]
  iapply (part3_spec X W K c v2 v50) $$ Hrec Hv0 HXB HY
  iintro ⟨Hv0, HXB, HY⟩
  rw [wp_bind]
  iapply (part4_spec X W K c v5 v7) $$ Hrec Ho Hw0 Hv0 D1 A1 C4_0 A4 D5 A5 C8_0 A8
  iintro ⟨Ho, Hw0, Hv0, Hw1, Hv1, #HrL1, #HrR1, A1, A4, A5, A8, #Hr11, #Hr41, #Hr51, #Hr81⟩
  rw [wp_bind]
  iapply (part5_spec X W K c v2 v5 v7) $$ Hrec Ho T4 T5 HrL1 HrR1 Hw0 Hv0 HjLR C0_1 A0 Hw1 Hv1 T20 T6 T21 T7
  iintro %v136
  iintro ⟨Ho, A0, HjO, Hw1, Hv1, D2, D6⟩
  rw [wp_bind]
  iapply (part6_spec X W K c v2 v136) $$ Hrec Hw1 Hv1 HXB HY
  iintro ⟨Hw1, Hv1, HXB, HY⟩
  rw [wp_bind]
  iapply (part7_spec X W K c v5 v7) $$ Hrec Ho Hw1 Hv1 D2 A2 C3_0 A3 D6 A6
  iintro ⟨Ho, Hw1, Hv1, Hw0, #HrL2, A2, A3, A6⟩
  rw [wp_bind]
  iapply (part8_spec X W K c v5 v7) $$ Hrec Ho C7_0 A7 T8 T9 HrL2 Hw1 Hv1 Hr41 Hr81 C0_2 A0 Hw0 T22 Hr11 T10
  iintro ⟨Ho, A7, A0, Hw0, Hv0, Hv1, #HrL8, D1⟩
  rw [wp_bind]
  iapply (part9_spec X W K c v2) $$ Hrec Ho Hv0 Hv1 T23 Hr51 T11 HrL8 Hw0 HXB HY
  iintro ⟨Ho, Hv0, D5, Hw0, HXB, HY⟩
  rw [wp_bind]
  iapply (part10_spec X W K c v7) $$ Hrec Ho HY Hw0 Hv0 D1 A1 C4_1 A4 D5 A5
  iintro ⟨Ho, HY, Hw0, Hv0, Hw1, A1, A4, A5⟩
  rw [wp_bind]
  iapply (part11_spec X W K c v2 v5) $$ Hrec Ho C8_1 A8 Hw1 HXB HY
  iintro %v304
  iintro ⟨Ho, A8, Hw1, Hv1, HXB, HY⟩
  unfold inbox
  icases HjL with ⟨HaL, HtL⟩
  icases HjR with ⟨HaR, HtR⟩
  icases HjO with ⟨HaO, HtO⟩
  rw [wp_bind]
  iapply (part12_spec X W K c v2 v304) $$ Hrec Ho HXB HY Hs HaR T24 T12
  iintro ⟨Ho, HXB, HY, D16, Hs1, Hs2⟩
  rw [wp_bind]
  iapply (part13_spec X W K c v2) $$ Hrec Ho Hs1 Hs2 HaO HaL T25 T13 T26 T14 Ca1 Aa1
  iintro %v371
  iintro ⟨Ho, D17, D18, Aa1, Hi1⟩
  rw [wp_bind]
  iapply (part14_spec X W K c v2 v371) $$ Hrec Ho Ca2 Aa2 Ca3 Aa3 HY
  iintro %v405
  iintro ⟨Ho, Aa2, Aa3, Hi2, Hi3, HY⟩
  rw [wp_bind]
  iapply (part15_spec X W K c v2 v405) $$ Hrec Ho Hq0 Hq1 HtR T27 T15 HY
  iintro %v446
  iintro ⟨Ho, D9, Hq1, HY⟩
  rw [wp_bind]
  iapply (part16_spec X W K c v2 v446) $$ Hrec Ho Hq1 Hq2 HtO HtL T28 T16 T29 T17 HY
  iintro ⟨Ho, D10, D11, HY⟩
  ihave HO : iprop(ob X W c 0) $$ [HO]
  · unfold ob; iexists fo; isplitr; · (ipureintro; exact OGood_zero X W c fo)
    iexact HO
  rw [wp_bind]
  iapply (part17_spec X W K c v2) $$ Hrec Ho HY HO Ct1 At1
  iintro ⟨Ho, HY, HO, At1, Hj1⟩
  rw [wp_bind]
  iapply (part18_spec X W K c v2) $$ Hrec Ho HO Ct2 At2 Ct3 At3
  iintro %v538
  iintro ⟨Ho, HO, At2, At3, Hj2, Hj3⟩
  rw [wp_bind]
  iapply (part19_spec X W K c v538) $$ Hrec Ho HO D16 A16 D17 A17 D18 A18 D9 A9
  iintro ⟨Ho, HO, A16, A17, A18, A9, Hs0, Hs1, Hs2, Hq0⟩
  iapply (wait_copy X W K c 10 0 18 (P := qs c 1 (spread (qt X W c (dv c 2)))) rfl (wpE_waitDma2_eq 𝒱₀ (c : Thread nD τ) none Set.univ) rfl rfl (by revert c; decide) (by decide) (by revert c; decide)) $$ Hrec D10 Ho A10
  iintro ⟨Ho, A10, -, Hq1⟩
  iapply (wait_copy X W K c 11 0 18 (P := qs c 2 (spread (qt X W c (dv c 3)))) rfl (wpE_waitDma2_eq 𝒱₀ (c : Thread nD τ) none Set.univ) rfl rfl (by revert c; decide) (by decide) (by revert c; decide)) $$ Hrec D11 Ho A11
  iintro ⟨Ho, A11, -, Hq2⟩
  rw [wp_ret]; imodintro
  iapply Hk
  isplitl [Ho]; · iexact Ho
  isplitl [A0 A1 A2 A3 A4 A5 A6 A7 A8 A9 A10 A11 A16 A17 A18 Atc Aac At1 At2 At3 Aa1 Aa2 Aa3]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A16]; · iexact A16
    isplitl [A17]; · iexact A17
    isplitl [A18]; · iexact A18
    isplitl [Atc]; · iexact Atc
    isplitl [Aac]; · iexact Aac
    isplitl [At1]; · iexact At1
    isplitl [At2]; · iexact At2
    isplitl [At3]; · iexact At3
    isplitl [Aa1]; · iexact Aa1
    isplitl [Aa2]; · iexact Aa2
    iexact Aa3
  isplitl [HXB HY Hq0 Hq1 Hq2 Hw0 Hw1 Hv0 Hv1 Hs0 Hs1 Hs2 Hi1 Hi2 Hi3 Hj1 Hj2 Hj3 Hic]
  · isplitl [HXB]; · (iexists _; iexact HXB)
    isplitl [HY]
    · unfold yb; icases HY with ⟨%f, -, HY⟩; iexists f; iexact HY
    isplitl [Hq0]; · (iexists _; iexact Hq0)
    isplitl [Hq1]; · (iexists _; iexact Hq1)
    isplitl [Hq2]; · (iexists _; iexact Hq2)
    isplitl [Hw0]; · (iexists _; iexact Hw0)
    isplitl [Hw1]; · (iexists _; iexact Hw1)
    isplitl [Hv0]; · (iexists _; iexact Hv0)
    isplitl [Hv1]; · (iexists _; iexact Hv1)
    isplitl [Hs0 Hs1 Hs2]
    · iexists _; iapply (asr_join (F := F) c (fun _ => m3 X W c))
      isplitl [Hs0]; · iexact Hs0
      isplitl [Hs1] <;> iassumption
    isplitl [Hi3 Hj3]
    · isplitl [Hi3]
      · iexists _; iexact Hi3
      · iexists _; iexact Hj3
    isplitl [Hi1 Hj1]
    · isplitl [Hi1]
      · iexists _; iexact Hi1
      · iexists _; iexact Hj1
    isplitl [Hi2 Hj2]
    · isplitl [Hi2]
      · iexists _; iexact Hi2
      · iexists _; iexact Hj2
    iexact Hic
  isplitl [HX]; · iexact HX
  isplitl [HW]; · iexact HW
  unfold ob
  icases HO with ⟨%f, %hf, HO⟩
  rw [← OGood_full X W hf]
  iexact HO

end Cert.RingQuant

end
-- ==== Proof.Slots.lean ====
/-
Buffers cut into their slots before the body and put together after it; the launch's credit of a device as one credit
for each payment that it will receive; and the cells closed at the end.
-/
module

public import proofs.«01_k».proof.Proof.Body
public import Idealize.ShloMosaic.Lib.Ring

@[expose] public section

set_option maxRecDepth 65536

noncomputable section

namespace Cert.RingQuant

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Slots -/

theorem slot_disj {n a b s s' : ℕ} (h : s ≠ s') : Disjoint (slotSet (n := n) (a := a) (b := b) s) (slotSet s') :=
  Finset.disjoint_left.mpr fun i hi hj => h ((mem_slotSet.mp hi).symm.trans (mem_slotSet.mp hj))

theorem slot_cover {n a b : ℕ} : Finset.univ.biUnion (fun s : Fin n => slotSet (n := n) (a := a) (b := b) s.val) = Finset.univ := by
  ext i
  simp only [Finset.mem_biUnion, Finset.mem_univ, true_and, iff_true]
  exact ⟨i 0, mem_slotSet.mpr rfl⟩

section
variable (c : Dev nD)

theorem four_list : (Finset.univ : Finset (Dev nD)) = [dv c 3, dv c 1, dv c 2, c].toFinset ∧ [dv c 3, dv c 1, dv c 2, c].Nodup := by
  revert c; decide

theorem qs_disj (c : Dev nD) : ∀ s s' : Fin 3, s ≠ s' → Disjoint (slotSet s.val : Finset (Idx ((c : Thread nD τ).loc cc0_scratch2))) (slotSet s'.val : Finset (Idx ((c : Thread nD τ).loc cc0_scratch2))) :=
  fun s s' h => slot_disj fun e => h (Fin.ext e)
theorem qs_cover (c : Dev nD) : Finset.univ.biUnion (fun s : Fin 3 => (slotSet s.val : Finset (Idx ((c : Thread nD τ).loc cc0_scratch2)))) = Finset.univ :=
  slot_cover (n := 3) (a := 1024) (b := 512)
theorem qs_cut (f : Buf (Elt F) ((c : Thread nD τ).loc cc0_scratch2)) :
    hold (F := F) c cc0_scratch2 f ⊢ iprop(qs (F := F) c 0 f ∗ qs (F := F) c 1 f ∗ qs (F := F) c 2 f) :=
  Entails.of_eq (Eq.trans
    (@Ring.pointsTo_blocks nD τ sig ℕ _ (Elt F) ℕ _ UU _ ℕ ((c : Thread nD τ).loc cc0_scratch2) (Fin 3) _ _ (qs_disj c) (qs_cover c) fullShare f)
    (bigSep_univ_eq_bigSepL [(0 : Fin 3), (1 : Fin 3), (2 : Fin 3)] (by decide) (by decide) fun s : Fin 3 => qs (F := F) c s.val f))
theorem qs_whole (f₀ : Buf (Elt F) ((c : Thread nD τ).loc cc0_scratch2)) :
    iprop((∃ f, qs (F := F) c 0 f) ∗ (∃ f, qs (F := F) c 1 f) ∗ (∃ f, qs (F := F) c 2 f)) ⊢ iprop(∃ f, hold (F := F) c cc0_scratch2 f) :=
  (Entails.of_eq (bigSep_univ_eq_bigSepL [(0 : Fin 3), (1 : Fin 3), (2 : Fin 3)] (by decide) (by decide) fun s : Fin 3 => iprop(∃ f, qs (F := F) c s.val f)).symm).trans
    (@Ring.pointsTo_blocks_join_exists nD τ sig ℕ _ (Elt F) ℕ _ UU _ ℕ ((c : Thread nD τ).loc cc0_scratch2) (Fin 3) _ _ _ (qs_disj c) (qs_cover c) fullShare f₀)

theorem cw_disj (c : Dev nD) : ∀ s s' : Fin 2, s ≠ s' → Disjoint (slotSet s.val : Finset (Idx ((c : Thread nD τ).loc cc0_scratch4))) (slotSet s'.val : Finset (Idx ((c : Thread nD τ).loc cc0_scratch4))) :=
  fun s s' h => slot_disj fun e => h (Fin.ext e)
theorem cw_cover (c : Dev nD) : Finset.univ.biUnion (fun s : Fin 2 => (slotSet s.val : Finset (Idx ((c : Thread nD τ).loc cc0_scratch4)))) = Finset.univ :=
  slot_cover (n := 2) (a := 4096) (b := 256)
theorem cw_cut (f : Buf (Elt F) ((c : Thread nD τ).loc cc0_scratch4)) :
    hold (F := F) c cc0_scratch4 f ⊢ iprop(cw (F := F) c 0 fullShare f ∗ cw (F := F) c 1 fullShare f) :=
  Entails.of_eq (Eq.trans
    (@Ring.pointsTo_blocks nD τ sig ℕ _ (Elt F) ℕ _ UU _ ℕ ((c : Thread nD τ).loc cc0_scratch4) (Fin 2) _ _ (cw_disj c) (cw_cover c) fullShare f)
    (bigSep_univ_eq_bigSepL [(0 : Fin 2), (1 : Fin 2)] (by decide) (by decide) fun s : Fin 2 => cw (F := F) c s.val fullShare f))
theorem cw_whole (f₀ : Buf (Elt F) ((c : Thread nD τ).loc cc0_scratch4)) :
    iprop((∃ f, cw (F := F) c 0 fullShare f) ∗ (∃ f, cw (F := F) c 1 fullShare f)) ⊢ iprop(∃ f, hold (F := F) c cc0_scratch4 f) :=
  (Entails.of_eq (bigSep_univ_eq_bigSepL [(0 : Fin 2), (1 : Fin 2)] (by decide) (by decide) fun s : Fin 2 => iprop(∃ f, cw (F := F) c s.val fullShare f)).symm).trans
    (@Ring.pointsTo_blocks_join_exists nD τ sig ℕ _ (Elt F) ℕ _ UU _ ℕ ((c : Thread nD τ).loc cc0_scratch4) (Fin 2) _ _ _ (cw_disj c) (cw_cover c) fullShare f₀)

theorem cc_disj (c : Dev nD) : ∀ s s' : Fin 2, s ≠ s' → Disjoint (slotSet s.val : Finset (Idx ((c : Thread nD τ).loc cc0_scratch7))) (slotSet s'.val : Finset (Idx ((c : Thread nD τ).loc cc0_scratch7))) :=
  fun s s' h => slot_disj fun e => h (Fin.ext e)
theorem cc_cover (c : Dev nD) : Finset.univ.biUnion (fun s : Fin 2 => (slotSet s.val : Finset (Idx ((c : Thread nD τ).loc cc0_scratch7)))) = Finset.univ :=
  slot_cover (n := 2) (a := 4096) (b := 256)
theorem cc_cut (f : Buf (Elt F) ((c : Thread nD τ).loc cc0_scratch7)) :
    hold (F := F) c cc0_scratch7 f ⊢ iprop(cc (F := F) c 0 fullShare f ∗ cc (F := F) c 1 fullShare f) :=
  Entails.of_eq (Eq.trans
    (@Ring.pointsTo_blocks nD τ sig ℕ _ (Elt F) ℕ _ UU _ ℕ ((c : Thread nD τ).loc cc0_scratch7) (Fin 2) _ _ (cc_disj c) (cc_cover c) fullShare f)
    (bigSep_univ_eq_bigSepL [(0 : Fin 2), (1 : Fin 2)] (by decide) (by decide) fun s : Fin 2 => cc (F := F) c s.val fullShare f))
theorem cc_whole (f₀ : Buf (Elt F) ((c : Thread nD τ).loc cc0_scratch7)) :
    iprop((∃ f, cc (F := F) c 0 fullShare f) ∗ (∃ f, cc (F := F) c 1 fullShare f)) ⊢ iprop(∃ f, hold (F := F) c cc0_scratch7 f) :=
  (Entails.of_eq (bigSep_univ_eq_bigSepL [(0 : Fin 2), (1 : Fin 2)] (by decide) (by decide) fun s : Fin 2 => iprop(∃ f, cc (F := F) c s.val fullShare f)).symm).trans
    (@Ring.pointsTo_blocks_join_exists nD τ sig ℕ _ (Elt F) ℕ _ UU _ ℕ ((c : Thread nD τ).loc cc0_scratch7) (Fin 2) _ _ _ (cc_disj c) (cc_cover c) fullShare f₀)

theorem qr_disj (c : Dev nD) : ∀ s s' : Fin 4, s ≠ s' → Disjoint (slotSet s.val : Finset (Idx ((c : Thread nD τ).loc cc0_scratch3))) (slotSet s'.val : Finset (Idx ((c : Thread nD τ).loc cc0_scratch3))) :=
  fun s s' h => slot_disj fun e => h (Fin.ext e)
theorem qr_cover (c : Dev nD) : Finset.univ.biUnion (fun s : Fin 4 => (slotSet s.val : Finset (Idx ((c : Thread nD τ).loc cc0_scratch3)))) = Finset.univ :=
  slot_cover (n := 4) (a := 1024) (b := 512)
theorem qr_cut (f : Buf (Elt F) ((c : Thread nD τ).loc cc0_scratch3)) :
    hold (F := F) c cc0_scratch3 f ⊢ iprop(qr (F := F) c (dv c 3).val f ∗ qr (F := F) c (dv c 1).val f ∗ qr (F := F) c (dv c 2).val f ∗ qr (F := F) c c.val f) :=
  Entails.of_eq (Eq.trans
    (@Ring.pointsTo_blocks nD τ sig ℕ _ (Elt F) ℕ _ UU _ ℕ ((c : Thread nD τ).loc cc0_scratch3) (Fin 4) _ _ (qr_disj c) (qr_cover c) fullShare f)
    (bigSep_univ_eq_bigSepL [dv c 3, dv c 1, dv c 2, c] (four_list c).1 (four_list c).2 fun s : Fin 4 => qr (F := F) c s.val f))
theorem qr_whole (f₀ : Buf (Elt F) ((c : Thread nD τ).loc cc0_scratch3)) :
    iprop((∃ f, qr (F := F) c (dv c 3).val f) ∗ (∃ f, qr (F := F) c (dv c 1).val f) ∗ (∃ f, qr (F := F) c (dv c 2).val f) ∗ (∃ f, qr (F := F) c c.val f)) ⊢ iprop(∃ f, hold (F := F) c cc0_scratch3 f) :=
  (Entails.of_eq (bigSep_univ_eq_bigSepL [dv c 3, dv c 1, dv c 2, c] (four_list c).1 (four_list c).2 fun s : Fin 4 => iprop(∃ f, qr (F := F) c s.val f)).symm).trans
    (@Ring.pointsTo_blocks_join_exists nD τ sig ℕ _ (Elt F) ℕ _ UU _ ℕ ((c : Thread nD τ).loc cc0_scratch3) (Fin 4) _ _ _ (qr_disj c) (qr_cover c) fullShare f₀)

theorem ad_disj (c : Dev nD) : ∀ s s' : Fin 4, s ≠ s' → Disjoint (slotSet s.val : Finset (Idx ((c : Thread nD τ).loc cc0_scratch13))) (slotSet s'.val : Finset (Idx ((c : Thread nD τ).loc cc0_scratch13))) :=
  fun s s' h => slot_disj fun e => h (Fin.ext e)
theorem ad_cover (c : Dev nD) : Finset.univ.biUnion (fun s : Fin 4 => (slotSet s.val : Finset (Idx ((c : Thread nD τ).loc cc0_scratch13)))) = Finset.univ :=
  slot_cover (n := 4) (a := 8) (b := 128)
theorem ad_cut (f : Buf (Elt F) ((c : Thread nD τ).loc cc0_scratch13)) :
    hold (F := F) c cc0_scratch13 f ⊢ iprop(ad (F := F) c (dv c 3).val f ∗ ad (F := F) c (dv c 1).val f ∗ ad (F := F) c (dv c 2).val f ∗ ad (F := F) c c.val f) :=
  Entails.of_eq (Eq.trans
    (@Ring.pointsTo_blocks nD τ sig ℕ _ (Elt F) ℕ _ UU _ ℕ ((c : Thread nD τ).loc cc0_scratch13) (Fin 4) _ _ (ad_disj c) (ad_cover c) fullShare f)
    (bigSep_univ_eq_bigSepL [dv c 3, dv c 1, dv c 2, c] (four_list c).1 (four_list c).2 fun s : Fin 4 => ad (F := F) c s.val f))
theorem ad_whole (f₀ : Buf (Elt F) ((c : Thread nD τ).loc cc0_scratch13)) :
    iprop((∃ f, ad (F := F) c (dv c 3).val f) ∗ (∃ f, ad (F := F) c (dv c 1).val f) ∗ (∃ f, ad (F := F) c (dv c 2).val f) ∗ (∃ f, ad (F := F) c c.val f)) ⊢ iprop(∃ f, hold (F := F) c cc0_scratch13 f) :=
  (Entails.of_eq (bigSep_univ_eq_bigSepL [dv c 3, dv c 1, dv c 2, c] (four_list c).1 (four_list c).2 fun s : Fin 4 => iprop(∃ f, ad (F := F) c s.val f)).symm).trans
    (@Ring.pointsTo_blocks_join_exists nD τ sig ℕ _ (Elt F) ℕ _ UU _ ℕ ((c : Thread nD τ).loc cc0_scratch13) (Fin 4) _ _ _ (ad_disj c) (ad_cover c) fullShare f₀)

/-- The kernel's buffers, cut into slots. -/
theorem slots_cut : (Pipeline.scopedRest (Ix := ℕ) (Name := ℕ) (U := UU) (Lvl := ℕ) (Val := Elt F) spec0 c : sProp 𝕄) ⊢ slots (F := F) c := by
  rw [scopedRest0_eq]
  unfold slots inbox
  show iprop((∃ f, hold (F := F) c cc0_scratch0 f) ∗ (∃ f, hold (F := F) c cc0_scratch1 f) ∗ (∃ f, hold (F := F) c cc0_scratch2 f) ∗ (∃ f, hold (F := F) c cc0_scratch3 f) ∗ (∃ f, hold (F := F) c cc0_scratch4 f) ∗ (∃ f, hold (F := F) c cc0_scratch7 f) ∗ (∃ f, asr (F := F) c fullShare f) ∗ (∃ f, hold (F := F) c cc0_scratch13 f)) ⊢ _
  iintro ⟨⟨%f0, H0⟩, ⟨%f1, H1⟩, ⟨%f2, H2⟩, ⟨%f3, H3⟩, ⟨%f4, H4⟩, ⟨%f7, H7⟩, ⟨%f12, H12⟩, ⟨%f13, H13⟩⟩
  ihave H2 := (show _ ⊢ _ from qs_cut (F := F) c f2) $$ H2
  ihave H3 := (qr_cut (F := F) c f3) $$ H3
  ihave H4 := (cw_cut (F := F) c f4) $$ H4
  ihave H7 := (cc_cut (F := F) c f7) $$ H7
  ihave H13 := (ad_cut (F := F) c f13) $$ H13
  icases H2 with ⟨Q0, Q1, Q2⟩
  icases H3 with ⟨R3, R1, R2, R0⟩
  icases H4 with ⟨W0, W1⟩
  icases H7 with ⟨V0, V1⟩
  icases H13 with ⟨A3, A1, A2, A0⟩
  isplitl [H0]; · (iexists f0; iexact H0)
  isplitl [H1]; · (iexists f1; iexact H1)
  isplitl [Q0]; · (iexists f2; iexact Q0)
  isplitl [Q1]; · (iexists f2; iexact Q1)
  isplitl [Q2]; · (iexists f2; iexact Q2)
  isplitl [W0]; · (iexists f4; iexact W0)
  isplitl [W1]; · (iexists f4; iexact W1)
  isplitl [V0]; · (iexists f7; iexact V0)
  isplitl [V1]; · (iexists f7; iexact V1)
  isplitl [H12]; · (iexists f12; iexact H12)
  isplitl [A3 R3]
  · isplitl [A3]
    · iexists f13; iexact A3
    · iexists f3; iexact R3
  isplitl [A1 R1]
  · isplitl [A1]
    · iexists f13; iexact A1
    · iexists f3; iexact R1
  isplitl [A2 R2]
  · isplitl [A2]
    · iexists f13; iexact A2
    · iexists f3; iexact R2
  isplitl [A0]
  · iexists f13; iexact A0
  · iexists f3; iexact R0

/-- The slots put together. -/
theorem slots_whole : slots (F := F) c ⊢ (Pipeline.scopedRest (Ix := ℕ) (Name := ℕ) (U := UU) (Lvl := ℕ) (Val := Elt F) spec0 c : sProp 𝕄) := by
  rw [scopedRest0_eq]
  unfold slots inbox
  show _ ⊢ iprop((∃ f, hold (F := F) c cc0_scratch0 f) ∗ (∃ f, hold (F := F) c cc0_scratch1 f) ∗ (∃ f, hold (F := F) c cc0_scratch2 f) ∗ (∃ f, hold (F := F) c cc0_scratch3 f) ∗ (∃ f, hold (F := F) c cc0_scratch4 f) ∗ (∃ f, hold (F := F) c cc0_scratch7 f) ∗ (∃ f, asr (F := F) c fullShare f) ∗ (∃ f, hold (F := F) c cc0_scratch13 f))
  iintro ⟨H0, H1, Q0, Q1, Q2, ⟨%w0, W0⟩, W1, ⟨%v0, V0⟩, V1, H12, ⟨A3, R3⟩, ⟨A1, R1⟩, ⟨A2, R2⟩, ⟨%a0, A0⟩, R0⟩
  isplitl [H0]; · iexact H0
  isplitl [H1]; · iexact H1
  isplitl [Q0 Q1 Q2]
  · iapply (qs_whole (F := F) c fun _ => 0#8)
    isplitl [Q0]; · iexact Q0
    isplitl [Q1] <;> iassumption
  isplitl [R3 R1 R2 R0]
  · iapply (qr_whole (F := F) c fun _ => 0#8)
    isplitl [R3]; · iexact R3
    isplitl [R1]; · iexact R1
    isplitl [R2] <;> iassumption
  isplitl [W0 W1]
  · iapply (cw_whole (F := F) c w0)
    isplitl [W0]; · (iexists w0; iexact W0)
    iexact W1
  isplitl [V0 V1]
  · iapply (cc_whole (F := F) c v0)
    isplitl [V0]; · (iexists v0; iexact V0)
    iexact V1
  isplitl [H12]; · iexact H12
  iapply (ad_whole (F := F) c a0)
  isplitl [A3]; · iexact A3
  isplitl [A1]; · iexact A1
  isplitl [A2]; · iexact A2
  iexists a0; iexact A0

/-! ## The launch's credit -/

/-- The credit of the first payment of a list, that of the device for which device `c` is the payee. -/
theorem credit_step (t : Dev nD → Dev nD) (k : Dev nD → Fin 23) (r : ℕ) (l : Dev nD → List (Dev nD × Fin 23 × ℕ)) (d : Dev nD)
    (hd : t d = c) (ht : ∀ e, t e = c → e = d) :
    (Pipeline.launchCred (fun e => owedList ((t e, k e, r) :: l e)) c : sProp 𝕄)
      ⊢ iprop(Pipeline.launchCred (fun e => owedList (l e)) c ∗ cred (tallyAt (cell c (k d)) r (amt (k d)))) := by
  show (Pipeline.launchCred (fun e => owedList (l e) + tallyAt (cell (t e) (k e)) r (amt (k e))) c : sProp 𝕄) ⊢ _
  rw [Pipeline.launchCred_add]
  refine sep_mono_right ((Pipeline.launchCred_elim _ c (csem (k d))).trans (Entails.of_eq (congrArg cred ?_)))
  show tallyOn (cell c (k d)) (launchCredit (Pipeline.owing fun e => tallyAt (cell (t e) (k e)) r (amt (k e))) 0 (cell c (k d))) = _
  unfold tallyAt
  refine congrArg _ (Finsupp.ext fun u => ?_)
  rw [Pipeline.launchCredit_owing, Finset.sum_eq_single d]
  · show tallyAt (cell (t d) (k d)) r (amt (k d)) (cell c (k d)) u = _
    rw [hd, tallyAt_apply, Finsupp.single_apply]
    by_cases hu : u = r
    · subst hu; simp
    · rw [if_neg fun h => hu h.2, if_neg fun h => hu h.symm]
  · intro e _ he
    show tallyAt (cell (t e) (k e)) r (amt (k e)) (cell c (k d)) u = 0
    rw [tallyAt_apply, if_neg fun h => he (ht e (cell_inj h.1).1.symm)]
  · exact fun h => absurd (Finset.mem_univ d) h

theorem payer (j k : ℕ) (h : j + k = 4) : dv (dv c k) j = c ∧ ∀ e, dv e j = c → e = dv c k := by
  refine ⟨by rw [dv_dv, Nat.add_comm, h, dv_four], fun e he => ?_⟩
  rw [← he, dv_dv, h, dv_four]

/-- What the others will pay device `c`, each payment a credit of its own; a barrier's two payments of a round together. -/
theorem creds_intro : (Pipeline.launchCred (fun e => Oc e 0) c : sProp 𝕄) ⊢ creds (F := F) c := by
  have P3 := payer c 3 1 rfl
  have P1 := payer c 1 3 rfl
  have P2 := payer c 2 2 rfl
  unfold Oc
  iintro H
  ihave H := (show (Pipeline.launchCred (fun e => owedList ((pays e).drop 0)) c : sProp 𝕄) ⊢ _ from credit_step (F := F) c (fun e => dv e 3) (fun _ => 0) 0 (fun e => (pays e).drop 1) _ P3.1 P3.2) $$ H
  icases H with ⟨H, E0⟩
  ihave H := (show (Pipeline.launchCred (fun e => owedList ((pays e).drop 1)) c : sProp 𝕄) ⊢ _ from credit_step (F := F) c (fun e => dv e 1) (fun _ => 0) 0 (fun e => (pays e).drop 2) _ P1.1 P1.2) $$ H
  icases H with ⟨H, E1⟩
  ihave H := (show (Pipeline.launchCred (fun e => owedList ((pays e).drop 2)) c : sProp 𝕄) ⊢ _ from credit_step (F := F) c (fun e => dv e 1) (fun _ => 4) 0 (fun e => (pays e).drop 3) _ P1.1 P1.2) $$ H
  icases H with ⟨H, E2⟩
  ihave H := (show (Pipeline.launchCred (fun e => owedList ((pays e).drop 3)) c : sProp 𝕄) ⊢ _ from credit_step (F := F) c (fun e => dv e 3) (fun _ => 8) 0 (fun e => (pays e).drop 4) _ P3.1 P3.2) $$ H
  icases H with ⟨H, E3⟩
  ihave H := (show (Pipeline.launchCred (fun e => owedList ((pays e).drop 4)) c : sProp 𝕄) ⊢ _ from credit_step (F := F) c (fun e => dv e 3) (fun _ => 0) 1 (fun e => (pays e).drop 5) _ P3.1 P3.2) $$ H
  icases H with ⟨H, E4⟩
  ihave H := (show (Pipeline.launchCred (fun e => owedList ((pays e).drop 5)) c : sProp 𝕄) ⊢ _ from credit_step (F := F) c (fun e => dv e 1) (fun _ => 0) 1 (fun e => (pays e).drop 6) _ P1.1 P1.2) $$ H
  icases H with ⟨H, E5⟩
  ihave H := (show (Pipeline.launchCred (fun e => owedList ((pays e).drop 6)) c : sProp 𝕄) ⊢ _ from credit_step (F := F) c (fun e => dv e 1) (fun _ => 3) 0 (fun e => (pays e).drop 7) _ P1.1 P1.2) $$ H
  icases H with ⟨H, E6⟩
  ihave H := (show (Pipeline.launchCred (fun e => owedList ((pays e).drop 7)) c : sProp 𝕄) ⊢ _ from credit_step (F := F) c (fun e => dv e 3) (fun _ => 7) 0 (fun e => (pays e).drop 8) _ P3.1 P3.2) $$ H
  icases H with ⟨H, E7⟩
  ihave H := (show (Pipeline.launchCred (fun e => owedList ((pays e).drop 8)) c : sProp 𝕄) ⊢ _ from credit_step (F := F) c (fun e => dv e 3) (fun _ => 0) 2 (fun e => (pays e).drop 9) _ P3.1 P3.2) $$ H
  icases H with ⟨H, E8⟩
  ihave H := (show (Pipeline.launchCred (fun e => owedList ((pays e).drop 9)) c : sProp 𝕄) ⊢ _ from credit_step (F := F) c (fun e => dv e 1) (fun _ => 0) 2 (fun e => (pays e).drop 10) _ P1.1 P1.2) $$ H
  icases H with ⟨H, E9⟩
  ihave H := (show (Pipeline.launchCred (fun e => owedList ((pays e).drop 10)) c : sProp 𝕄) ⊢ _ from credit_step (F := F) c (fun e => dv e 1) (fun _ => 4) 1 (fun e => (pays e).drop 11) _ P1.1 P1.2) $$ H
  icases H with ⟨H, E10⟩
  ihave H := (show (Pipeline.launchCred (fun e => owedList ((pays e).drop 11)) c : sProp 𝕄) ⊢ _ from credit_step (F := F) c (fun e => dv e 3) (fun _ => 8) 1 (fun e => (pays e).drop 12) _ P3.1 P3.2) $$ H
  icases H with ⟨H, E11⟩
  ihave H := (show (Pipeline.launchCred (fun e => owedList ((pays e).drop 12)) c : sProp 𝕄) ⊢ _ from credit_step (F := F) c (fun e => dv e 1) (fun e => aR e) 0 (fun e => (pays e).drop 13) _ P1.1 P1.2) $$ H
  icases H with ⟨H, E12⟩
  ihave H := (show (Pipeline.launchCred (fun e => owedList ((pays e).drop 13)) c : sProp 𝕄) ⊢ _ from credit_step (F := F) c (fun e => dv e 2) (fun e => aR e) 0 (fun e => (pays e).drop 14) _ P2.1 P2.2) $$ H
  icases H with ⟨H, E13⟩
  ihave H := (show (Pipeline.launchCred (fun e => owedList ((pays e).drop 14)) c : sProp 𝕄) ⊢ _ from credit_step (F := F) c (fun e => dv e 3) (fun e => aR e) 0 (fun e => (pays e).drop 15) _ P3.1 P3.2) $$ H
  icases H with ⟨H, E14⟩
  ihave H := (show (Pipeline.launchCred (fun e => owedList ((pays e).drop 15)) c : sProp 𝕄) ⊢ _ from credit_step (F := F) c (fun e => dv e 1) (fun e => tR e) 0 (fun e => (pays e).drop 16) _ P1.1 P1.2) $$ H
  icases H with ⟨H, E15⟩
  ihave H := (show (Pipeline.launchCred (fun e => owedList ((pays e).drop 16)) c : sProp 𝕄) ⊢ _ from credit_step (F := F) c (fun e => dv e 2) (fun e => tR e) 0 (fun e => (pays e).drop 17) _ P2.1 P2.2) $$ H
  icases H with ⟨H, E16⟩
  ihave H := (show (Pipeline.launchCred (fun e => owedList ((pays e).drop 17)) c : sProp 𝕄) ⊢ _ from credit_step (F := F) c (fun e => dv e 3) (fun e => tR e) 0 (fun e => (pays e).drop 18) _ P3.1 P3.2) $$ H
  icases H with ⟨H, E17⟩
  unfold creds
  isplitl [E0 E1]
  · rw [show (2 : ℕ) = amt 0 + amt 0 from rfl, ← tallyAt_add]
    iapply (cred_add _ _).2
    isplitl [E0] <;> iassumption
  isplitl [E4 E5]
  · rw [show (2 : ℕ) = amt 0 + amt 0 from rfl, ← tallyAt_add]
    iapply (cred_add _ _).2
    isplitl [E4] <;> iassumption
  isplitl [E8 E9]
  · rw [show (2 : ℕ) = amt 0 + amt 0 from rfl, ← tallyAt_add]
    iapply (cred_add _ _).2
    isplitl [E8] <;> iassumption
  isplitl [E6]; · iexact E6
  isplitl [E2]; · iexact E2
  isplitl [E10]; · iexact E10
  isplitl [E7]; · iexact E7
  isplitl [E3]; · iexact E3
  isplitl [E11]; · iexact E11
  isplitl [E14]; · iexact E14
  isplitl [E13]; · iexact E13
  isplitl [E12]; · iexact E12
  isplitl [E17]; · iexact E17
  isplitl [E16]; · iexact E16
  iexact E15

/-! ## The end -/

/-- A device's cells close when every round is over: their counters read zero. -/
theorem close_cells (X : Dev nD → Vec F S1024x4096 .bf16) (W : Dev nD → Vec F S4096x512 .bf16) (K : Dev nD × Fin 23 → ℕ) :
    iprop(records X W K ∗ ats (F := F) c (nr c)) ⊢ |={Set.univ}=> (bigSep Finset.univ fun k : Fin 23 => semVal (cell c k) 0 : sProp 𝕄) := by
  unfold ats
  refine (sep_mono_left (BI.bigSep_of_persistent (Finset.univ : Finset (Fin 23)) (records X W K))).trans ?_
  rw [← BI.bigSep_sep']
  refine BIBase.Entails.trans (bigSep_mono fun k _ => ?_) (bigSep_fupd Finset.univ fun k : Fin 23 => semVal (cell c k) 0)
  show iprop(records X W K ∗ atPos ER (cell c k) (nr c k) ∅ 0) ⊢ (|={Set.univ}=> semVal (cell c k) 0 : sProp 𝕄)
  iintro ⟨#Hrec, Ha⟩
  ihave #Hi := (records_inv X W K c k) $$ Hrec
  iapply (Rounds.cell_close ER (rd X W) (Set.mem_univ (K (c, k))) (fun h => h) (R := nr c k)
    (fun r hr => by rw [duties_cell]; exact if_neg (Nat.not_lt.mpr hr)))
  isplitr; · iexact Hi
  iexact Ha

end

end Cert.RingQuant

end
-- ==== Proof.Launch.lean ====
/-
The launch: the pipeline's data of each device, the ghost state minted for all cells at once and dealt to the devices,
and the run of the whole program from any memory.
-/
module

public import proofs.«01_k».proof.Proof.Slots
public import Idealize.ShloMosaic.Lib.Pipeline.CollectiveSegs

@[expose] public section

set_option maxRecDepth 65536

noncomputable section

namespace Cert.RingQuant

open Cert.KernelIdeal Cert.KernelIdeal.Gen
open Idealize.ShloMosaic
open Idealize.ShloMosaic.Pipeline (Dat BodyObligation)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- The state the program starts from: any memory, every counter at zero. -/
def s₀ : MemSt nD τ sig (Elt F) := ⟨m, fun _ => 0, ρ⟩

/-- Device `c`'s rows of `x` and columns of `w`, as staged. -/
def xs (c : Dev nD) : Vec F S1024x4096 .bf16 :=
  (win0_0.blk (0 : Fin 1)).view.read (Elt F) ((s₀ m ρ).mem ((c : Thread nD τ).loc main_arg0))
def ws (c : Dev nD) : Vec F S4096x512 .bf16 :=
  (win0_1.blk (0 : Fin 1)).view.read (Elt F) ((s₀ m ρ).mem ((c : Thread nD τ).loc main_arg1))

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants and their round-0 marks, under the names `K`. -/
def marks (K : Dev nD × Fin 23 → ℕ) : sProp 𝕄 :=
  iprop((bigSep Finset.univ fun ck : Dev nD × Fin 23 => cellInv ER (rd (xs m ρ) (ws m ρ)) (K ck) (cell ck.1 ck.2))
    ∗ bigSep Finset.univ fun ck : Dev nD × Fin 23 => reached ER (cell ck.1 ck.2) 0)

instance marks_persistent (K : Dev nD × Fin 23 → ℕ) : BI.Persistent (marks m ρ K) := by unfold marks; infer_instance

/-- What the global step deals a device. -/
def G' (c : Dev nD) : sProp 𝕄 := iprop(∃ K, marks m ρ K ∗ ats (F := F) c (fun _ => 0) ∗ toks (F := F) c)

/-- What device `c`'s body starts from, besides its buffers. -/
def start (c : Dev nD) : sProp 𝕄 := iprop(G' m ρ c ∗ creds (F := F) c ∗ levAts L lv)

def Φ₀ (c : Dev nD) : sProp 𝕄 := iprop(start m ρ c ∗ slots (F := F) c)
def Φ₁ (c : Dev nD) : sProp 𝕄 := iprop(slots (F := F) c ∗ bigSep Finset.univ fun k : Fin 23 => semVal (cell c k) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xs m ρ c
    | ⟨1, _⟩ => ws m ρ c
    | ⟨2, _⟩ => Out (xs m ρ) (ws m ρ) c
  Φ t := match t with
    | ⟨0, _⟩ => Φ₀ m ρ c
    | ⟨_ + 1, _⟩ => Φ₁ c
  q _ := fullShare
  owed t := match t with
    | ⟨0, _⟩ => Oc c 0
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem owns_whole_eq (c : Dev nD) (b : Ref sig .tc) (Z : b.ty.Contents (Elt F)) :
    (owns (Ix := ℕ) (Name := ℕ) (U := UU) (Lvl := ℕ) (c : Thread nD τ) (Memref.whole b) fullShare Z : sProp 𝕄)
      = iprop(∃ f : Buf (Elt F) (((c : Dev nD) : Thread nD τ).loc b), ⌜f = Z⌝ ∗ (((c : Thread nD τ).loc b) ↦{fullShare} f)) := by
  unfold owns; simp only [Memref.view_whole, View.read_whole, View.set_whole]

/-! ## The body, as the pipeline asks for it -/

section Body

abbrev stg (c : Dev nD) (b : Ref sig .tc) (Z : b.ty.Contents (Elt F)) : sProp 𝕄 :=
  iprop(∃ f : Buf (Elt F) (((c : Dev nD) : Thread nD τ).loc b), ⌜f = Z⌝ ∗ (((c : Thread nD τ).loc b) ↦{fullShare} f))

def bodyPre (c : Dev nD) : sProp 𝕄 :=
  iprop(Φ₀ m ρ c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt 0 t₀.succ ∗ stg c cc0_stg0_0 (xs m ρ c) ∗ stg c cc0_stg1_0 (ws m ρ c)
    ∗ stg c cc0_stg2_0 (Out (xs m ρ) (ws m ρ) c))

theorem records_intro (K : Dev nD × Fin 23 → ℕ) : iprop(marks m ρ K ∗ levAts L lv) ⊢ records (xs m ρ) (ws m ρ) K := by
  unfold marks records
  iintro ⟨⟨H1, H2⟩, H3⟩
  isplitl [H1]; · iexact H1
  isplitl [H2]; · iexact H2
  iexact H3

/-- What the body leaves, its cells closed. -/
theorem body_end (K : Dev nD × Fin 23 → ℕ) (c : Dev nD) :
    records (xs m ρ) (ws m ρ) K ⊢ iprop((ow (F := F) c 18 ∗ ats (F := F) c (nr c) ∗ slots (F := F) c ∗ hold (F := F) c cc0_stg0_0 (xs m ρ c)
        ∗ hold (F := F) c cc0_stg1_0 (ws m ρ c) ∗ hold (F := F) c cc0_stg2_0 (Out (xs m ρ) (ws m ρ) c)) -∗ |={Set.univ}=> bodyPost m ρ c) := by
  iintro #Hrec ⟨Ho, Ha, Hs, HX, HW, HO⟩
  imod (close_cells c (xs m ρ) (ws m ρ) K) $$ [Ha] with Hz
  · isplitr; · iexact Hrec
    iexact Ha
  imodintro
  unfold bodyPost Φ₁ Dat.owesAt Pipeline.owesWithin hold
  rw [show (dats m ρ 0 c).owed t₀.succ = 0 from rfl]
  isplitl [Hs Hz]
  · isplitl [Hs] <;> iassumption
  isplitl [Ho]
  · unfold ow
    icases Ho with ⟨%Wt, Ho⟩
    iexists Wt
    isplitr; · ipureintro; exact fun _ _ => Or.inl trivial
    iexact Ho
  isplitl [HX]
  · iexists _; isplitr; · (ipureintro; rfl)
    iexact HX
  isplitl [HW]
  · iexists _; isplitr; · (ipureintro; rfl)
    iexact HW
  iexists _; isplitr; · (ipureintro; rfl)
  iexact HO

theorem sound_body (c : Dev nD) :
    bodyPre m ρ c ⊢ wp frame (wpE (defs₀ (F := F)) 𝒱₀ (c : Thread nD τ) none) Set.univ (theBody (F := F)) (fun _ => bodyPost m ρ c) := by
  refine BIBase.Entails.trans ?_ (wp_fupd _ _ _ _ _)
  unfold bodyPre Φ₀ start G'
  iintro ⟨⟨⟨⟨%K, #Hm, Ha, Ht⟩, Hc, #Hl⟩, Hs⟩, Ho, ⟨%d0, %g0, %hg0, HX⟩, ⟨%d1, %g1, %hg1, HW⟩, ⟨%d2, %g2, %hg2, HO⟩⟩
  have hx : g0 = xs m ρ c := by rw [hg0]; unfold Dat.before; rw [if_pos (fetch_0 t₀)]; rfl
  have hw : g1 = ws m ρ c := by rw [hg1]; unfold Dat.before; rw [if_pos (fetch_1 t₀)]; rfl
  subst hx; subst hw
  unfold Dat.owesAt Pipeline.owesWithin
  icases Ho with ⟨%Wt, %hW, Ho⟩
  rw [show (dats m ρ 0 c).owed t₀.castSucc = Oc c 0 from rfl]
  ihave #Hrec := (records_intro m ρ K) $$ [Hm Hl]
  · isplitl <;> iassumption
  iapply (body_spec (xs m ρ) (ws m ρ) K c) $$ Hrec [Ho] Ht Hc Ha Hs [HX] [HW] [HO]
  · unfold ow; iexists Wt; iexact Ho
  · unfold hold; iexact HX
  · unfold hold; iexact HW
  · unfold hold; iexists g2; iexact HO
  iapply (body_end m ρ K c) $$ Hrec

theorem body_obligation (c : Dev nD) : BodyObligation (dats (F := F) m ρ 0 c) (defs₀ (F := F)) 𝒱₀ 0 Set.univ := fun t => by
  rw [fin_N t]
  rw [bigSep_W, bigSep_W]
  simp only [owns_whole_eq]
  exact sound_body m ρ c

end Body

/-! ## The cells and the tokens -/

theorem ownSemFacts : Pipeline.OwnSemFacts cfg0.spec osem := by decide

theorem share_eq (c : Dev nD) (w : Fin cfg0.W) : (dats m ρ 0 c).share w = fullShare := by unfold Dat.share; split <;> rfl

def cellOf (ck : Dev nD × Fin 23) : GSem nD τ sig := cell ck.1 ck.2
theorem cellOf_injective : Function.Injective cellOf := fun a b h => Prod.ext (cell_inj h).1 (cell_inj h).2
def ringCells : Finset (GSem nD τ sig) := Finset.univ.map ⟨cellOf, cellOf_injective⟩

theorem dutyKey_injective : ∀ p q : Dev nD × Fin 30, dutyKey p.1 p.2 = dutyKey q.1 q.2 → p = q := by decide +kernel

/-- The duty tokens as minted, by who carries the duty out. -/
def tokOf (cj : Dev nD × Fin 30) : GSem nD τ sig × ℕ × Bool :=
  (cell (dutyKey cj.1 cj.2).1 (dutyKey cj.1 cj.2).2.1, (dutyKey cj.1 cj.2).2.2.1, (dutyKey cj.1 cj.2).2.2.2)
theorem tokOf_injective : Function.Injective tokOf := fun p q h => by
  have h1 := cell_inj (congrArg Prod.fst h)
  have h2 := congrArg Prod.snd h
  exact dutyKey_injective p q (Prod.ext h1.1 (Prod.ext h1.2 h2))
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- What the launch element deals device `c`. -/
def G (c : Dev nD) : sProp 𝕄 :=
  iprop((bigSep Finset.univ fun k : Fin 23 => roundState ER (rd (xs m ρ) (ws m ρ)) (cell c k) 0)
    ∗ (bigSep Finset.univ fun k : Fin 23 => iprop(atPos ER (cell c k) 0 ∅ 0 ∗ reached ER (cell c k) 0)) ∗ toks (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 23 => Φ (cell c k) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]; rfl
  iintro HX
  imod (Rounds.fund ER (rd (xs m ρ) (ws m ρ)) ringCells ringToks) $$ HX with ⟨Hst, Hr, Hat, Htok⟩
  imodintro
  ihave Hst' := (Entails.of_eq (hX fun g => roundState ER (rd (xs m ρ) (ws m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem ownSems0_eq (c : Dev nD) : (Pipeline.ownSems0 (Ix := ℕ) (Name := ℕ) (U := UU) (Lvl := ℕ) (Val := Elt F) (τ := τ) osem c : sProp 𝕄)
    = bigSep Finset.univ fun k : Fin 22 => semVal (cell c k.succ) 0 := by
  unfold Pipeline.ownSems0
  exact bigSep_congr fun k _ => by unfold cell; rw [csem_succ]

theorem unscopedSems0_eq (c : Dev nD) : (unscopedSems0 c : sProp 𝕄) = semVal (cell c 0) 0 := by
  unfold unscopedSems0; rw [bigSep_eq_bigSepL_of_eq [SemLoc.reg barS] (by decide) (by decide)]; rfl

/-- A device's cells: the barrier's, then the kernel's own. -/
theorem sems_eq (c : Dev nD) : (bigSep Finset.univ fun k : Fin 23 => (semVal (cell c k) 0 : sProp 𝕄))
    = iprop(unscopedSems0 c ∗ Pipeline.ownSems0 (Ix := ℕ) (Name := ℕ) (U := UU) (Lvl := ℕ) (Val := Elt F) (τ := τ) osem c) := by
  rw [ownSems0_eq, unscopedSems0_eq]
  have h : (Finset.univ.erase (0 : Fin 23)) = Finset.univ.map ⟨Fin.succ, Fin.succ_injective 22⟩ := by decide
  rw [bigSep_univ_at _ (0 : Fin 23), h, bigSep_map]
  rfl

/-! ## From the launch to the devices -/

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : Fin 23 => iprop(∃ κ : ℕ, cellInv ER (rd (xs m ρ) (ws m ρ)) κ (cell c k)))
          ∗ (bigSep Finset.univ fun k : Fin 23 => iprop(atPos ER (cell c k) 0 ∅ 0 ∗ reached ER (cell c k) 0)) ∗ toks (F := F) c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Fin 23 => semVal (cell c k) 0) ∗ bigSep Finset.univ fun k : Fin 23 => roundState ER (rd (xs m ρ) (ws m ρ)) (cell c k) 0)
      ⊢ (|={Set.univ}=> bigSep Finset.univ fun k : Fin 23 => iprop(∃ κ : ℕ, cellInv ER (rd (xs m ρ) (ws m ρ)) κ (cell c k)) : sProp 𝕄) from by
        rw [← bigSep_sep']
        exact (bigSep_mono fun k _ => (Rounds.body_intro ER (rd (xs m ρ) (ws m ρ)) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem deal {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent (Finset.univ : Finset (Dev nD)) R)).trans (by rw [← bigSep_sep']; exact bigSep_mono fun c _ => h c)

theorem deal_one (K : Dev nD × Fin 23 → ℕ) (c : Dev nD) :
    iprop(marks m ρ K ∗ ats (F := F) c (fun _ => 0) ∗ toks (F := F) c) ⊢ G' m ρ c := by
  unfold G'
  iintro H
  iexists K
  iexact H

theorem regroup :
    (bigSep Finset.univ fun c : Dev nD => iprop((bigSep Finset.univ fun k : Fin 23 => iprop(∃ κ : ℕ, cellInv ER (rd (xs m ρ) (ws m ρ)) κ (cell c k)))
          ∗ (bigSep Finset.univ fun k : Fin 23 => iprop(atPos ER (cell c k) 0 ∅ 0 ∗ reached ER (cell c k) 0)) ∗ toks (F := F) c) : sProp 𝕄)
      ⊢ bigSep Finset.univ (G' m ρ) := by
  rw [bigSep_sep', bigSep_sep', ← bigSep_univ_prod (fun ck : Dev nD × Fin 23 => iprop(∃ κ : ℕ, cellInv ER (rd (xs m ρ) (ws m ρ)) κ (cell ck.1 ck.2))),
    bigSep_congr (s := Finset.univ) (fun (c : Dev nD) _ => bigSep_sep' Finset.univ (fun k : Fin 23 => (atPos ER (cell c k) 0 ∅ 0 : sProp 𝕄)) (fun k => reached ER (cell c k) 0)),
    bigSep_sep', ← bigSep_univ_prod (fun ck : Dev nD × Fin 23 => (reached ER (cell ck.1 ck.2) 0 : sProp 𝕄))]
  iintro ⟨HI, ⟨Hat, #HR⟩, Htok⟩
  ihave HK := (BI.bigSep_exists_pi Finset.univ (fun (ck : Dev nD × Fin 23) (κ : ℕ) => (cellInv ER (rd (xs m ρ) (ws m ρ)) κ (cell ck.1 ck.2) : sProp 𝕄))) $$ HI
  icases HK with ⟨%K, #HI⟩
  iapply (deal (R := marks m ρ K) (fun c => deal_one m ρ K c))
  isplitr
  · unfold marks; isplitl; · iexact HI
    iexact HR
  · rw [bigSep_sep']
    isplitl [Hat]; · unfold ats; iexact Hat
    iexact Htok

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred (fun e => Oc e 0) c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (slots_cut (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [sems_eq]
  iintro ⟨Hr, Hu, Ho⟩
  isplitl [Hu]; · iexact Hu
  isplitl [Ho]; · iexact Ho
  iapply (slots_whole (F := F) c); iexact Hr

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait_stage c _ (by fin_cases w <;> fin_cases s <;> decide) 0
    · exact mayWait_stage c _ (by fin_cases w <;> fin_cases s <;> decide) 18

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, on any float values: every execution of the four devices terminates, and every
    final state has each device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun e => Oc e 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingQuant

end
-- ==== Proof.Frames.lean ====
/-
The frames of the three programs. The kernel's two readings have one run, at any float values.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

@[expose] public section

set_option maxRecDepth 65536

noncomputable section

namespace Cert.RingQuant

open Idealize.ShloMosaic Idealize.ShloMosaic.TcCoe Idealize.SL.Sem

section
open Cert.KernelIdeal Cert.KernelIdeal.Gen
variable {F : FTy → Type} [FloatOps F]
variable (m : (ℓ : Loc nD τ sig) → Buf (Elt F) ℓ) (ρ : Dev nD → PrngReg)

/-- The argument arrays after the run hold what they held. -/
theorem finalA_x (c : Dev nD) : finalA m ρ c (0 : Fin 3) = m ((c.tc : Thread nD τ).loc main_arg0) :=
  (dats (F := F) m ρ 0 c).arrAt_in (0 : Fin 3) rfl _
theorem finalA_w (c : Dev nD) : finalA m ρ c (1 : Fin 3) = m ((c.tc : Thread nD τ).loc main_arg1) :=
  (dats (F := F) m ρ 0 c).arrAt_in (1 : Fin 3) rfl _

theorem args_unchanged {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(h c (0 : Fin 3)).trans (finalA_x m ρ c), (h c (1 : Fin 3)).trans (finalA_w m ρ c)⟩
end

theorem frame_ideal : Cert.quiescent_KernelIdeal := fun m ρ _ =>
  (θ_run Cert.KernelIdeal.defs _ _).mono (fun _ h => ⟨fun c => args_unchanged m ρ h.1 c, h.2⟩) (run_main (F := Ideal) m ρ)

/-- The two readings have the same body table. -/
theorem body_same : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨_ | _, h⟩ := l
  · rfl
  · exact absurd h (Nat.not_lt.2 (Nat.le_add_left _ _))
theorem defs_same : Cert.Kernel.defs (F := Bits) = Cert.KernelIdeal.defs (F := Bits) :=
  congrArg (Pipeline.defs (Cert.KernelIdeal.pcfgs (F := Bits))) body_same

theorem frame_kernel : Cert.quiescent_Kernel := fun m ρ _ => by
  rw [defs_same]
  exact (θ_run Cert.KernelIdeal.defs _ _).mono (fun _ h => ⟨fun c => args_unchanged (F := Bits) m ρ h.1 c, h.2⟩) (run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingQuant

end
-- ==== Proof.Results.lean ====
/-
What the arrays hold after the run: the result array what the body left in its one block, and the staged inputs what the
argument arrays held.
-/
module

public import proofs.«01_k».proof.Proof.Launch

@[expose] public section

set_option maxRecDepth 65536

noncomputable section

namespace Cert.RingQuant

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem xs_eq (c : Dev nD) : xs m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

theorem ws_eq (c : Dev nD) : ws m ρ c = m ((c.tc : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

theorem result_block (c : Dev nD) :
    (win0_2.blk (0 : Fin 1)).view.read (Elt F) (finalA m ρ c (2 : Fin 3)) = Out (xs m ρ) (ws m ρ) c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

theorem result_eq (c : Dev nD) : finalA m ρ c (2 : Fin 3) = Out (xs m ρ) (ws m ρ) c := by
  have hz : (fun a => (win0_2.index (0 : Fin 1)) a * main_v1.ty.shape.size a) = fun _ => 0 :=
    funext fun a => by fin_cases a <;> decide
  exact (Memref.read_access_unit_zero (Elt F) main_v1 hz (fun a => by fin_cases a <;> decide) _).symm.trans (result_block m ρ c)

end Cert.RingQuant

end
-- ==== Proof.Product.lean ====
/-
The product, negatives cut off, entry by entry over the extended reals: what one entry of a device's tile holds, in terms
of the devices' inputs, and in terms of the whole arrays when the inputs are their blocks.
-/
module

public import proofs.«01_k».proof.Proof.Values
public import Idealize.ShloMosaic.Lib.Pointwise
public import Idealize.ShloMosaic.Lib.Layout

@[expose] public section

set_option maxRecDepth 16384

noncomputable section

namespace Cert.RingQuant

open Cert.KernelIdeal Cert.KernelIdeal.Gen
open Idealize.ShloMosaic
open Idealize.ShloMosaic.TcCoe

variable (X : Dev nD → Vec Ideal S1024x4096 .bf16) (W : Dev nD → Vec Ideal S4096x512 .bf16)

/-- Row `r` of device `c` times column `j` of device `d`, negatives cut off. -/
def ent (c d : Dev nD) (r : Fin 1024) (j : Fin 512) : EReal :=
  max (∑ k : Fin 4096, (X c (ix2 r k) : EReal) * W d (ix2 k j)) 0

theorem ent_nonneg (c d : Dev nD) (r : Fin 1024) (j : Fin 512) : 0 ≤ ent X W c d r j := le_max_right _ _

theorem wL_apply (d : Dev nD) (k : Fin 4096) (j : Fin 256) :
    wL W d (ix3 0 k j) = W d (ix2 k ⟨j.val, by omega⟩) := by
  unfold wL
  pointwise [k0_pay1]
  refine congrArg (W d) (funext fun ax => Fin.ext ?_)
  fin_cases ax
  · show 0 + 1 * k.val = k.val; omega
  · show 0 + 1 * j.val = j.val; omega

theorem wR_apply (d : Dev nD) (k : Fin 4096) (j : Fin 256) :
    wR W d (ix3 0 k j) = W d (ix2 k ⟨256 + j.val, by omega⟩) := by
  unfold wR
  pointwise [k0_pay2]
  refine congrArg (W d) (funext fun ax => Fin.ext ?_)
  fin_cases ax
  · show 0 + 1 * k.val = k.val; omega
  · show 256 + 1 * j.val = 256 + j.val; omega

theorem xb_apply (c : Dev nD) (r : Fin 1024) (k : Fin 4096) : xb X c (ix2 r k) = X c (ix2 r k) := by
  unfold xb
  pointwise [k0_pay3]

theorem yL_apply (c d : Dev nD) (r : Fin 1024) (j : Fin 256) :
    yL X W c d (ix3 0 r j) = ent X W c d r ⟨j.val, by omega⟩ := by
  unfold yL ent
  pointwise [k0_pay6, k0_pay5, k0_pay4]
  simp only [wL_apply, xb_apply]

theorem yR_apply (c d : Dev nD) (r : Fin 1024) (j : Fin 256) :
    yR X W c d (ix3 0 r j) = ent X W c d r ⟨256 + j.val, by omega⟩ := by
  unfold yR ent
  pointwise [k0_pay8, k0_pay7]
  simp only [wR_apply, xb_apply]

theorem yt_apply (c d : Dev nD) (r : Fin 1024) (j : Fin 512) : yt X W c d (ix3 0 r j) = ent X W c d r j := by
  unfold yt
  split_ifs with h
  · have h' : j.val < 256 := h
    rw [show ixL (ix3 0 r j) h = ix3 0 r ⟨j.val, h'⟩ from by funext ax; fin_cases ax <;> rfl, yL_apply]
  · have h' : ¬ j.val < 256 := h
    rw [show ixR (ix3 0 r j) = ix3 0 r ⟨j.val - 256, by omega⟩ from by funext ax; fin_cases ax <;> rfl, yR_apply]
    congr 1
    exact Fin.ext (by show 256 + (j.val - 256) = j.val; omega)

end Cert.RingQuant

end
-- ==== Proof.Quantize.lean ====
/-
The quantiser on one number, over the extended reals. The reference divides by the scale `g / 127`, rounds and clips;
the kernel multiplies by `127 / g`, rounds, clips and stores eight bits. For a number between zero and the maximum `g`
the two scale back to the same value, also when `g` is zero or infinite.
-/
module

public import Idealize.ShloMosaic.PureOps.Ideal.Laws
public import Idealize.ShloMosaic.Lib.IdealHost

@[expose] public section

noncomputable section

namespace Cert.RingQuant

open Idealize.ShloMosaic

/-- The two clipping bounds as the programs spell them. -/
theorem word_127 : Ideal.ofBits .f32 0x42FE0000#32 = ((127 : ℝ) : EReal) := by
  simp [Ideal.ofBits, Ideal.ieee, -EReal.coe_mul]; norm_num
theorem word_neg127 : Ideal.ofBits .f32 0xC2FE0000#32 = ((-127 : ℝ) : EReal) := by
  simp [Ideal.ofBits, Ideal.ieee, -EReal.coe_mul, -EReal.coe_neg]; norm_num
theorem word_negInf : Ideal.ofBits .f32 0xFF800000#32 = ⊥ := by
  simp [Ideal.ofBits, Ideal.ieee]

/-- The level nearest to `z`, clipped. -/
def level (z : EReal) : EReal := min ((127 : ℝ) : EReal) (max ((-127 : ℝ) : EReal) (Ideal.liftRound Ideal.roundHalfEven z))

/-- The reference's value for `y` when the maximum is `g`. -/
def refQ (g y : EReal) : EReal := level (Ideal.div y (Ideal.div g ((127 : ℝ) : EReal))) * Ideal.div g ((127 : ℝ) : EReal)

/-- The level the kernel stores, and its value for `y`. -/
def kerLevel (g y : EReal) : BitVec 8 := Ideal.fptosi 8 (level (y * Ideal.div ((127 : ℝ) : EReal) g))
def kerQ (g y : EReal) : EReal := (((kerLevel g y).toInt : ℝ) : EReal) * Ideal.div g ((127 : ℝ) : EReal)

theorem round_bounds {r : ℝ} (h0 : 0 ≤ r) (h1 : r ≤ 127) : 0 ≤ Ideal.roundHalfEven r ∧ Ideal.roundHalfEven r ≤ 127 := by
  have f0 : 0 ≤ ⌊r⌋ := Int.floor_nonneg.2 h0
  have f1 : ⌊r⌋ ≤ 127 := by
    have : (⌊r⌋ : ℝ) ≤ ((127 : ℤ) : ℝ) := (Int.floor_le r).trans (by exact_mod_cast h1)
    exact_mod_cast this
  by_cases hf : ⌊r⌋ = 127
  · have e : r = 127 := le_antisymm h1 (by have := Int.floor_le r; rw [hf] at this; exact_mod_cast this)
    have e2 : r - (⌊r⌋ : ℝ) < 1 / 2 := by rw [hf, e]; norm_num
    unfold Ideal.roundHalfEven
    simp only [if_pos e2]
    exact ⟨f0, f1⟩
  · have f2 : ⌊r⌋ + 1 ≤ 127 := by omega
    unfold Ideal.roundHalfEven
    dsimp only
    split_ifs <;> omega

theorem level_int {r : ℝ} (h0 : 0 ≤ r) (h1 : r ≤ 127) : level (r : EReal) = ((Ideal.roundHalfEven r : ℝ) : EReal) := by
  obtain ⟨b0, b1⟩ := round_bounds h0 h1
  have c0 : (0 : ℝ) ≤ (Ideal.roundHalfEven r : ℝ) := by exact_mod_cast b0
  have c1 : (Ideal.roundHalfEven r : ℝ) ≤ 127 := by exact_mod_cast b1
  unfold level
  rw [Ideal.liftRound_coe, max_eq_right (EReal.coe_le_coe_iff.2 (by linarith)), min_eq_right (EReal.coe_le_coe_iff.2 c1)]

/-- An integer from 0 to 127 survives eight bits. -/
theorem stored_int {n : ℤ} (h0 : 0 ≤ n) (h1 : n ≤ 127) : (Ideal.fptosi 8 (((n : ℝ)) : EReal)).toInt = n := by
  have hn : (0 : ℝ) ≤ (n : ℝ) := by exact_mod_cast h0
  unfold Ideal.fptosi
  rw [Ideal.toIntClamped_coe, if_pos hn, Int.floor_intCast]
  have e : max (-((2 ^ (8 - 1) : ℕ) : ℤ)) (min (((2 ^ (8 - 1) : ℕ) : ℤ) - 1) n) = n := by norm_num; omega
  rw [e, BitVec.toInt_ofInt]
  exact Int.bmod_eq_of_le (by norm_num; omega) (by norm_num; omega)

theorem kerQ_eq_refQ {g y : EReal} (h0 : 0 ≤ y) (h1 : y ≤ g) : kerQ g y = refQ g y := by
  have h127 : (127 : ℝ) ≠ 0 := by norm_num
  unfold kerQ refQ kerLevel
  rcases eq_or_lt_of_le (h0.trans h1) with hg | hg
  · rw [← hg, Ideal.div_coe h127, zero_mul, mul_zero, mul_zero]
  · induction g with
    | bot => exact absurd hg (by simp)
    | top =>
      have s : Ideal.div ⊤ ((127 : ℝ) : EReal) = ⊤ := by
        rw [Ideal.div_coe h127]; exact EReal.top_mul_coe_of_pos (by norm_num)
      have t : Ideal.div ((127 : ℝ) : EReal) ⊤ = 0 := by simp [Ideal.div]
      have u : Ideal.div y ⊤ = 0 := by simp [Ideal.div]
      have l : level 0 = ((((0 : ℤ) : ℝ)) : EReal) := by
        have := level_int (r := 0) le_rfl (by norm_num)
        rw [EReal.coe_zero] at this
        rw [this]
        simp [Ideal.roundHalfEven]
      rw [s, t, u, mul_zero, l, stored_int le_rfl (by norm_num)]
    | coe g =>
      have hg' : 0 < g := by exact_mod_cast hg
      induction y with
      | bot => exact absurd h0 (by simp)
      | top => exact absurd h1 (by simp)
      | coe y =>
        have hy0 : 0 ≤ y := by exact_mod_cast h0
        have hy1 : y ≤ g := by exact_mod_cast h1
        have a : (y : EReal) * Ideal.div ((127 : ℝ) : EReal) (g : EReal) = ((y * (127 / g) : ℝ) : EReal) := by
          rw [Ideal.div_coe hg'.ne', ← EReal.coe_mul, ← EReal.coe_mul]; congr 1; ring
        have b : Ideal.div (y : EReal) (Ideal.div (g : EReal) ((127 : ℝ) : EReal)) = ((y * (127 / g) : ℝ) : EReal) := by
          rw [Ideal.div_coe h127, ← EReal.coe_mul, Ideal.div_coe (by positivity), ← EReal.coe_mul]
          congr 1; field_simp
        have r0 : 0 ≤ y * (127 / g) := by positivity
        have r1 : y * (127 / g) ≤ 127 := by
          rw [mul_div_assoc', div_le_iff₀ hg']; nlinarith
        obtain ⟨b0, b1⟩ := round_bounds r0 r1
        rw [a, b, level_int r0 r1, stored_int b0 b1]

end Cert.RingQuant

end
-- ==== Proof.Maximum.lean ====
/-
The maximum. A fold of maxima is known by the numbers above it: `g` is at least the fold exactly when it is at least
every entry. So the order in which a device folds its tiles and its peers' maxima does not matter: on every device the
result is the least number that is at least zero and at least every entry of the product.
-/
module

public import proofs.«01_k».proof.Proof.Product
public import proofs.«01_k».proof.Proof.Quantize

@[expose] public section

set_option maxRecDepth 16384

noncomputable section

namespace Cert.RingQuant

open Cert.KernelIdeal Cert.KernelIdeal.Gen
open Idealize.ShloMosaic
open Idealize.ShloMosaic.TcCoe

theorem fold_le {ι : Type*} (s : Finset ι) (f : ι → EReal) (a : EReal) :
    s.fold max ⊥ f ≤ a ↔ ∀ i ∈ s, f i ≤ a := by
  rw [Finset.fold_max_le]
  exact and_iff_right bot_le

section
variable {F : FTy → Type} [FloatOps F]

/-- The maximum of a tile, as the kernel takes it. -/
def tileMax (v : FVec F S1024x256 .f32) : F .f32 :=
  extractAt ![0, 0, 0] (shapeCast S1x1x1 (multiReduction .maximumf [1, 2] S1
    (shapeCast S1x1024x256 v shapeCasts_S1024x256_S1x1024x256) 0xFF800000#32 reduces_S1x1024x256_S1 (.inl rfl) rfl)
    shapeCasts_S1_S1x1x1) inpos_S1x1x1_p0_0_0

/-- The maximum of a peer's message. -/
def peerMax (v : Vec F S1x8x128 .f32) : F .f32 :=
  extractAt ![0, 0, 0] (shapeCast S1x1x1 (multiReduction .maximumf [1, 2] S1
    (shapeCast S1x8x128 (shapeCast S8x128 v shapeCasts_S1x8x128_S8x128 : FVec F S8x128 .f32) shapeCasts_S8x128_S1x8x128)
    0xFF800000#32 reduces_S1x8x128_S1 (.inl rfl) rfl) shapeCasts_S1_S1x1x1) inpos_S1x1x1_p0_0_0

/-! ### The steps of the fold, as the kernel spells them -/

variable (v v' : Vec F S1x4096x256 .bf16) (y y' : Vec F S1024x4096 .bf16) (g : F .f32) (p p' : Vec F S1x8x128 .f32)

theorem step0 : k0_pay9 (k0_pay4 v) y v' y'
    = Scalar.maximumf (Scalar.maximumf (Scalar.ofBits .f32 0x00000000#32) (tileMax (k0_pay7 v y))) (tileMax (k0_pay7 v' y')) := rfl
theorem step1 : k0_pay14 g v y v' y' = Scalar.maximumf (Scalar.maximumf g (tileMax (k0_pay7 v y))) (tileMax (k0_pay7 v' y')) := rfl
theorem step2 : k0_pay20 (k0_pay17 g v y) (k0_pay18 v' y')
    = Scalar.maximumf (Scalar.maximumf g (tileMax (k0_pay7 v y))) (tileMax (k0_pay7 v' y')) := rfl
theorem step3 : k0_pay27 (k0_pay23 g v y) (k0_pay24 v') y'
    = Scalar.maximumf (Scalar.maximumf g (tileMax (k0_pay7 v y))) (tileMax (k0_pay7 v' y')) := rfl
theorem peer1 : k0_pay29 g p = Scalar.maximumf g (peerMax p) := rfl
theorem peer23 : k0_pay30 g p p' = Scalar.maximumf (Scalar.maximumf g (peerMax p)) (peerMax p') := rfl
theorem scale_def : k0_pay31 g p p' = Scalar.divf (k0_pay30 g p p') (Scalar.ofBits .f32 0x42FE0000#32) := rfl
theorem inverse_def : k0_pay32 g p p' = Scalar.divf (Scalar.ofBits .f32 0x42FE0000#32) (k0_pay30 g p p') := rfl
end

theorem tileMax_le (v : FVec Ideal S1024x256 .f32) (a : EReal) : (tileMax v : EReal) ≤ a ↔ ∀ r j, v (ix2 r j) ≤ a := by
  unfold tileMax
  pointwise
  rw [word_negInf, fold_le]
  exact ⟨fun h r j => h (r, j) (Finset.mem_univ _), fun h x _ => h x.1 x.2⟩

theorem max_le_scalar (x y : Ideal .f32) (a : EReal) : (Scalar.maximumf x y : EReal) ≤ a ↔ (x : EReal) ≤ a ∧ (y : EReal) ≤ a := by
  rw [Ideal.scalar_maximumf_def]
  exact max_le_iff

/-- A peer's message holds its maximum everywhere. -/
theorem peerMax_const (b : EReal) : peerMax (F := Ideal) (fun _ => b) = b := by
  refine eq_of_forall_ge_iff fun a => ?_
  unfold peerMax
  pointwise
  rw [word_negInf, fold_le]
  exact ⟨fun h => h (0, 0) (Finset.mem_univ _), fun h _ _ => h⟩

/-- A device and its three peers are all devices. -/
theorem all_devices {p : Dev nD → Prop} (c : Dev nD) : (∀ d, p d) ↔ p c ∧ p (dv c 1) ∧ p (dv c 2) ∧ p (dv c 3) := by
  refine ⟨fun h => ⟨h _, h _, h _, h _⟩, fun ⟨h0, h1, h2, h3⟩ d => ?_⟩
  have e : ∀ c d : Dev nD, d = c ∨ d = dv c 1 ∨ d = dv c 2 ∨ d = dv c 3 := by decide
  rcases e c d with e | e | e | e <;> subst e <;> assumption

variable (X : Dev nD → Vec Ideal S1024x4096 .bf16) (W : Dev nD → Vec Ideal S4096x512 .bf16)

/-- The two halves of device `c`'s tile for `d`. -/
def halfL (c d : Dev nD) : FVec Ideal S1024x256 .f32 := k0_pay7 (wL W d) (xb X c)
def halfR (c d : Dev nD) : FVec Ideal S1024x256 .f32 := k0_pay7 (wR W d) (xb X c)

theorem halfL_apply (c d : Dev nD) (r : Fin 1024) (j : Fin 256) : halfL X W c d (ix2 r j) = ent X W c d r ⟨j.val, by omega⟩ := by
  unfold halfL ent
  pointwise [k0_pay7]
  simp only [wL_apply, xb_apply]
theorem halfR_apply (c d : Dev nD) (r : Fin 1024) (j : Fin 256) : halfR X W c d (ix2 r j) = ent X W c d r ⟨256 + j.val, by omega⟩ := by
  unfold halfR ent
  pointwise [k0_pay7]
  simp only [wR_apply, xb_apply]

/-- The two halves' maxima are the tile's. -/
theorem halves_le (c d : Dev nD) (a : EReal) :
    ((tileMax (halfL X W c d) : EReal) ≤ a ∧ (tileMax (halfR X W c d) : EReal) ≤ a) ↔ ∀ r j, ent X W c d r j ≤ a := by
  rw [tileMax_le, tileMax_le]
  constructor
  · rintro ⟨hl, hr⟩ r j
    by_cases h : j.val < 256
    · have := hl r ⟨j.val, h⟩
      rwa [halfL_apply] at this
    · have := hr r ⟨j.val - 256, by omega⟩
      rw [halfR_apply] at this
      have e : (⟨256 + (j.val - 256), by omega⟩ : Fin 512) = j := Fin.ext (by show 256 + (j.val - 256) = j.val; omega)
      rwa [e] at this
  · intro h
    exact ⟨fun r j => (halfL_apply X W c d r j).trans_le (h _ _), fun r j => (halfR_apply X W c d r j).trans_le (h _ _)⟩

theorem regroup_halves {z l0 l1 l2 l3 r0 r1 r2 r3 : Prop} :
    ((((((((z ∧ l0) ∧ r0) ∧ l3) ∧ r1) ∧ l2) ∧ r2) ∧ l1) ∧ r3)
      ↔ z ∧ (l0 ∧ r0) ∧ (l1 ∧ r1) ∧ (l2 ∧ r2) ∧ (l3 ∧ r3) := by tauto
theorem regroup_peers {z p0 p1 p2 p3 : Prop} :
    ((((z ∧ p0) ∧ z ∧ p1) ∧ z ∧ p2) ∧ z ∧ p3) ↔ z ∧ p0 ∧ p1 ∧ p2 ∧ p3 := by tauto

/-- The maximum over device `c`'s rows. -/
theorem m3_le (c : Dev nD) (a : EReal) : (m3 X W c : EReal) ≤ a ↔ 0 ≤ a ∧ ∀ d r j, ent X W c d r j ≤ a := by
  simp only [← halves_le]
  have z : (Scalar.ofBits .f32 0x00000000#32 : Ideal .f32) = (0 : EReal) := Ideal.ofBits_zero_f32
  rw [all_devices c, m3, step3, m2, step2, m1, step1, m0, step0, z]
  rw [max_le_scalar, max_le_scalar, max_le_scalar, max_le_scalar, max_le_scalar, max_le_scalar, max_le_scalar, max_le_scalar]
  unfold halfL halfR
  exact regroup_halves

/-- The maximum over all devices' rows, as device `c` folds it. -/
def gmax (c : Dev nD) : EReal := k0_pay30 (g1 X W c) (am X W (dv c 2)) (am X W (dv c 3))

theorem gmax_le (c : Dev nD) (a : EReal) : gmax X W c ≤ a ↔ 0 ≤ a ∧ ∀ s d r j, ent X W s d r j ≤ a := by
  have e : ∀ d, peerMax (am X W d) = m3 X W d := fun d => by
    unfold am
    exact peerMax_const _
  rw [gmax, peer23, g1, peer1, e, e, e]
  rw [max_le_scalar, max_le_scalar, max_le_scalar, m3_le, m3_le, m3_le, m3_le]
  rw [all_devices (p := fun s => ∀ d r j, ent X W s d r j ≤ a) c]
  exact regroup_peers

/-- All devices agree on the maximum. -/
theorem gmax_eq (c c' : Dev nD) : gmax X W c = gmax X W c' :=
  eq_of_forall_ge_iff fun a => (gmax_le X W c a).trans (gmax_le X W c' a).symm

theorem ent_le_gmax (c s d : Dev nD) (r : Fin 1024) (j : Fin 512) : ent X W s d r j ≤ gmax X W c :=
  ((gmax_le X W c _).1 le_rfl).2 s d r j

/-- The scale and its inverse. -/
theorem sc_eq (c : Dev nD) : sc X W c = Ideal.div (gmax X W c) ((127 : ℝ) : EReal) := by
  have z : (Scalar.ofBits .f32 0x42FE0000#32 : Ideal .f32) = ((127 : ℝ) : EReal) := word_127
  rw [sc, scale_def, z, Ideal.scalar_divf_def, gmax]
theorem iv_eq (c : Dev nD) : iv X W c = Ideal.div ((127 : ℝ) : EReal) (gmax X W c) := by
  have z : (Scalar.ofBits .f32 0x42FE0000#32 : Ideal .f32) = ((127 : ℝ) : EReal) := word_127
  rw [iv, inverse_def, z, Ideal.scalar_divf_def, gmax]

end Cert.RingQuant

end
-- ==== Proof.Output.lean ====
/-
What the kernel's output holds, entry by entry: the entry of the product, quantised and scaled back with the maximum all
devices agree on, whichever device quantised it.
-/
module

public import proofs.«01_k».proof.Proof.Maximum

@[expose] public section

set_option maxRecDepth 16384

noncomputable section

namespace Cert.RingQuant

open Cert.KernelIdeal Cert.KernelIdeal.Gen
open Idealize.ShloMosaic
open Idealize.ShloMosaic.TcCoe

section
variable {F : FTy → Type} [FloatOps F] (i g : F .f32) (t : Vec F S1x1024x512 .f32) (q : IVec S1x1024x512 8)

/-- A number's level, as the kernel's operations make it. -/
def levelOf (i x : F .f32) : BitVec 8 :=
  FloatOps.fptosi 8 (FloatOps.minimumf (FloatOps.ofBits .f32 0x42FE0000#32)
    (FloatOps.maximumf (FloatOps.ofBits .f32 0xC2FE0000#32) (FloatOps.roundeven (FloatOps.mulf x i))))

theorem pay36_apply (r : Fin 1024) (j : Fin 512) : k0_pay36 i t (ix3 0 r j) = levelOf i (t (ix3 0 r j)) := by
  unfold levelOf
  pointwise [k0_pay36]
theorem pay38_apply (r : Fin 1024) (j : Fin 512) :
    k0_pay38 g i t (ix2 r j) = FloatOps.mulf (FloatOps.sitofp .f32 (levelOf i (t (ix3 0 r j)))) g := by
  unfold levelOf
  pointwise [k0_pay38]
theorem pay39_apply (r : Fin 1024) (j : Fin 512) :
    k0_pay39 g q (ix2 r j) = FloatOps.mulf (FloatOps.sitofp .f32 (q (ix3 0 r j))) g := by
  pointwise [k0_pay39]
end

variable (X : Dev nD → Vec Ideal S1024x4096 .bf16) (W : Dev nD → Vec Ideal S4096x512 .bf16)

/-- Over the extended reals this is the quantiser's level. -/
theorem levelOf_ideal (i x : EReal) : levelOf (F := Ideal) i x = Ideal.fptosi 8 (level (x * i)) := by
  unfold levelOf level
  rw [Ideal.ofBits_def, Ideal.ofBits_def, word_127, word_neg127]
  rfl
theorem scaled_ideal (b : BitVec 8) (g : EReal) :
    FloatOps.mulf (F := Ideal) (φ := .f32) (FloatOps.sitofp .f32 b) g = ((b.toInt : ℝ) : EReal) * g := rfl

/-- The level device `c` stores for `d`. -/
theorem qt_apply (c d : Dev nD) (r : Fin 1024) (j : Fin 512) :
    qt X W c d (ix3 0 r j) = kerLevel (gmax X W c) (ent X W c d r j) := by
  unfold qt kerLevel
  rw [pay36_apply, levelOf_ideal, yt_apply, iv_eq]

/-- A device's own rows, quantised and scaled back in place. -/
theorem own_apply (c : Dev nD) (r : Fin 1024) (j : Fin 512) :
    k0_pay38 (sc X W c) (iv X W c) (yt X W c c) (ix2 r j) = kerQ (gmax X W c) (ent X W c c r j) := by
  unfold kerQ kerLevel
  rw [pay38_apply, levelOf_ideal, scaled_ideal, yt_apply, iv_eq, sc_eq]

/-- A received tile, scaled back. -/
theorem received_apply (c s : Dev nD) (r : Fin 1024) (j : Fin 512) :
    k0_pay39 (sc X W c) (qt X W s c) (ix2 r j) = kerQ (gmax X W c) (ent X W s c r j) := by
  unfold kerQ
  rw [pay39_apply, scaled_ideal, qt_apply, sc_eq, gmax_eq X W s c]

theorem ot_apply (c s : Dev nD) (r : Fin 1024) (j : Fin 512) :
    ot X W c s (ix2 r j) = refQ (gmax X W c) (ent X W s c r j) := by
  rw [← kerQ_eq_refQ (ent_nonneg X W s c r j) (ent_le_gmax X W c s c r j)]
  by_cases h : s = c
  · subst h; rw [ot_self, own_apply]
  · rw [ot_ne X W h, received_apply]

end Cert.RingQuant

end
-- ==== Proof.Reference.lean ====
/-
What the reference computes, entry by entry over the extended reals: the product with negatives cut off, its greatest
magnitude, and every entry quantised and scaled back with that maximum.
-/
module

public import proofs.«01_k».proof.Proof.Gen.ReferenceIdeal
public import proofs.«01_k».proof.Proof.Gen.ReferenceIdeal.Run
public import proofs.«01_k».proof.Proof.Maximum
public import Idealize.ShloMosaic.Lib.Pointwise

@[expose] public section

set_option maxRecDepth 16384

noncomputable section

namespace Cert.RingQuant.Ref

open Cert.ReferenceIdeal Cert.ReferenceIdeal.Gen
open Idealize.ShloMosaic
open Idealize.ShloMosaic.TcCoe

section
variable {F : FTy → Type} [FloatOps F]

/-- The product, negatives cut off. -/
def relu (x : FVec F S4096x4096 .bf16) (w : FVec F S4096x2048 .bf16) : FVec F S4096x2048 .f32 :=
  maximumf (Host.dotGeneral dot_S4096x4096_S4096x2048_S4096x2048_1_0_0_1_n_n none (extf .f32 x bitsLt_bf16_f32) (extf .f32 w bitsLt_bf16_f32))
    (broadcastInDim S4096x2048 ![] bcast_S_S4096x2048 (constant S_ .f32 0x00000000#32))
/-- The greatest magnitude. -/
def amax (v : FVec F S4096x2048 .f32) : FVec F S_ .f32 :=
  Host.reduce FloatOps.maximumf (Host.absf v) (constant S_ .f32 0xFF800000#32) reducesTo_S4096x2048_S_d0_1 h_S_
/-- The scale. -/
def scale (g : FVec F S_ .f32) : FVec F S_ .f32 := Host.divf g (constant S_ .f32 0x42FE0000#32)
/-- The entries, quantised with a scale and scaled back. -/
def quant (v : FVec F S4096x2048 .f32) (s : FVec F S_ .f32) : FVec F S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf v (broadcastInDim S4096x2048 ![] bcast_S_S4096x2048 s)))))
    (broadcastInDim S4096x2048 ![] bcast_S_S4096x2048 s)
/-- The reference's result. -/
def out (x : FVec F S4096x4096 .bf16) (w : FVec F S4096x2048 .bf16) : FVec F S4096x2048 .f32 :=
  quant (relu x w) (scale (amax (relu x w)))

theorem quant_apply (v : FVec F S4096x2048 .f32) (s : FVec F S_ .f32) (r : Fin 4096) (j : Fin 2048) :
    quant v s (ix2 r j) = FloatOps.mulf (FloatOps.minimumf (FloatOps.ofBits .f32 0x42FE0000#32)
      (FloatOps.maximumf (FloatOps.ofBits .f32 0xC2FE0000#32) (FloatOps.hostUnary .roundeven (FloatOps.hostDivf (v (ix2 r j)) (s ix0)))))
      (s ix0) := by
  pointwise [quant]
  rfl
theorem scale_apply (g : FVec F S_ .f32) : scale g ix0 = FloatOps.hostDivf (g ix0) (FloatOps.ofBits .f32 0x42FE0000#32) := by
  pointwise [scale]
end

theorem relu_apply (x : FVec Ideal S4096x4096 .bf16) (w : FVec Ideal S4096x2048 .bf16) (r : Fin 4096) (j : Fin 2048) :
    relu x w (ix2 r j) = max (∑ k : Fin 4096, (x (ix2 r k) : EReal) * w (ix2 k j)) 0 := by
  pointwise [relu]

/-- A number's magnitude. -/
def mag (x : EReal) : EReal := max x (-x)
theorem mag_of_nonneg {x : EReal} (h : 0 ≤ x) : mag x = x := max_eq_left ((EReal.neg_le_zero.2 h).trans h)
theorem absf_ideal (x : EReal) : FloatOps.absf (F := Ideal) (φ := .f32) x = mag x := rfl

theorem amax_le (v : FVec Ideal S4096x2048 .f32) (a : EReal) :
    (amax v ix0 : EReal) ≤ a ↔ ∀ (r : Fin 4096) (j : Fin 2048), mag (v (ix2 r j)) ≤ a := by
  pointwise [amax]
  rw [word_negInf, fold_le]
  simp only [absf_ideal]
  refine ⟨fun h r j => ?_, fun h x hx => ?_⟩
  · have h1 := h (r, j) (@Finset.mem_univ _ _ _)
    exact h1
  · have h2 := h x.1 x.2
    exact h2

/-- One entry of the result. -/
theorem out_apply (x : FVec Ideal S4096x4096 .bf16) (w : FVec Ideal S4096x2048 .bf16) (r : Fin 4096) (j : Fin 2048) :
    out x w (ix2 r j) = refQ (amax (relu x w) ix0) (relu x w (ix2 r j)) := by
  unfold out refQ level
  rw [quant_apply, scale_apply]
  rw [Ideal.ofBits_def, Ideal.ofBits_def, word_127, word_neg127, Ideal.hostUnary_roundeven_def, Ideal.hostDivf_def,
    Ideal.hostDivf_def, Ideal.mulf_def, Ideal.minimumf_def, Ideal.maximumf_def]

end Cert.RingQuant.Ref

end
-- ==== Proof.Equation.lean ====
/-
The equation: when the devices hold the blocks of the whole arrays, device `c`'s output is its block of what the reference
computes. An entry of a device's tile is an entry of the whole product; the maximum all devices agree on is the
reference's; and the entry quantised and scaled back with it is the reference's too.
-/
module

public import proofs.«01_k».proof.Proof.Output
public import proofs.«01_k».proof.Proof.Reference

@[expose] public section

set_option maxRecDepth 16384

noncomputable section

namespace Cert.RingQuant

open Cert.KernelIdeal Cert.KernelIdeal.Gen
open Idealize.ShloMosaic
open Idealize.ShloMosaic.TcCoe

variable (x : FVec Ideal ⟨2, ![4096, 4096]⟩ .bf16) (w : FVec Ideal ⟨2, ![4096, 2048]⟩ .bf16)

/-- The devices' blocks of the arrays. -/
def xOf (c : Dev nD) : Vec Ideal S1024x4096 .bf16 := Layout.block ⟨2, ![1024, 4096]⟩ ⟨2, ![4096, 4096]⟩ 0 4 c x
def wOf (d : Dev nD) : Vec Ideal S4096x512 .bf16 := Layout.block ⟨2, ![4096, 512]⟩ ⟨2, ![4096, 2048]⟩ 1 4 d w

/-- A device's row and column among all. -/
def rowOf (c : Dev nD) (r : Fin 1024) : Fin 4096 := ⟨c.val * 1024 + r.val, by
  have h : c.val < 4 := c.isLt
  omega⟩
def colOf (d : Dev nD) (j : Fin 512) : Fin 2048 := ⟨d.val * 512 + j.val, by
  have h : d.val < 4 := d.isLt
  omega⟩

theorem xOf_apply (c : Dev nD) (r : Fin 1024) (k : Fin 4096) : xOf x c (ix2 r k) = x (ix2 (rowOf c r) k) := by
  unfold xOf
  rw [Layout.block_apply]
  exact congrArg x (funext fun ax => Fin.ext (by fin_cases ax <;> rfl))
theorem wOf_apply (d : Dev nD) (k : Fin 4096) (j : Fin 512) : wOf w d (ix2 k j) = w (ix2 k (colOf d j)) := by
  unfold wOf
  rw [Layout.block_apply]
  exact congrArg w (funext fun ax => Fin.ext (by fin_cases ax <;> rfl))

/-- A device's entry is an entry of the whole product. -/
theorem ent_eq (s d : Dev nD) (r : Fin 1024) (j : Fin 512) :
    ent (xOf x) (wOf w) s d r j = Ref.relu x w (ix2 (rowOf s r) (colOf d j)) := by
  rw [Ref.relu_apply]
  unfold ent
  simp only [xOf_apply, wOf_apply]

/-- Every row and column is some device's. -/
theorem row_cases (R : Fin 4096) : ∃ s r, R = rowOf s r :=
  ⟨⟨R.val / 1024, by show R.val / 1024 < 4; omega⟩, ⟨R.val % 1024, Nat.mod_lt _ (by decide)⟩,
    Fin.ext (by show R.val = R.val / 1024 * 1024 + R.val % 1024; omega)⟩
theorem col_cases (J : Fin 2048) : ∃ d j, J = colOf d j :=
  ⟨⟨J.val / 512, by show J.val / 512 < 4; omega⟩, ⟨J.val % 512, Nat.mod_lt _ (by decide)⟩,
    Fin.ext (by show J.val = J.val / 512 * 512 + J.val % 512; omega)⟩

/-- The devices' maximum is the reference's. -/
theorem gmax_eq_amax (c : Dev nD) : gmax (xOf x) (wOf w) c = Ref.amax (Ref.relu x w) ix0 := by
  refine eq_of_forall_ge_iff fun a => ?_
  rw [gmax_le, Ref.amax_le]
  constructor
  · rintro ⟨-, h⟩ R J
    obtain ⟨s, r, rfl⟩ := row_cases R
    obtain ⟨d, j, rfl⟩ := col_cases J
    rw [← ent_eq, Ref.mag_of_nonneg (ent_nonneg _ _ _ _ _ _)]
    exact h s d r j
  · intro h
    have h' : ∀ s d r j, ent (xOf x) (wOf w) s d r j ≤ a := fun s d r j => by
      have := h (rowOf s r) (colOf d j)
      rwa [← ent_eq, Ref.mag_of_nonneg (ent_nonneg _ _ _ _ _ _)] at this
    exact ⟨(ent_nonneg (xOf x) (wOf w) 0 0 0 0).trans (h' 0 0 0 0), h'⟩

theorem Out_eq (c : Dev nD) :
    Out (xOf x) (wOf w) c = Layout.block ⟨2, ![4096, 512]⟩ ⟨2, ![4096, 2048]⟩ 1 4 c (Ref.out x w) := by
  funext i
  have hi : (i 0).val < 4096 := (i 0).isLt
  rw [Layout.block_apply]
  have ei : oIn i = ix2 (⟨(i 0).val % 1024, Nat.mod_lt _ (by decide)⟩ : Fin 1024) (⟨(i 1).val, (i 1).isLt⟩ : Fin 512) :=
    funext fun ax => by fin_cases ax <;> rfl
  unfold Out
  rw [ei, ot_apply, ent_eq, gmax_eq_amax, ← Ref.out_apply]
  refine congrArg (Ref.out x w) (funext fun ax => Fin.ext ?_)
  fin_cases ax
  · show (i 0).val / 1024 * 1024 + (i 0).val % 1024 = (i 0).val; omega
  · rfl

end Cert.RingQuant

end
-- ==== Proof.Algebraic.lean ====
/-
The value claim over the extended reals: from the blocks of the whole arrays, the kernel's devices end with the blocks of
what the reference ends with, and both leave their arguments as they were.
-/
module

public import proofs.«01_k».proof.Proof.Frames
public import proofs.«01_k».proof.Proof.Results
public import proofs.«01_k».proof.Proof.Equation

@[expose] public section

set_option maxRecDepth 65536

noncomputable section

namespace Cert.RingQuant

open Idealize.ShloMosaic Idealize.ShloMosaic.TcCoe Idealize.SL.Sem

/-- What device `c` ends with, from the blocks of `x` and `w`. -/
theorem result_of_blocks (m : (ℓ : Loc Cert.KernelIdeal.nD Cert.KernelIdeal.τ Cert.KernelIdeal.sig) → Buf (Elt Ideal) ℓ)
    (ρ : Dev Cert.KernelIdeal.nD → PrngReg) (x : FVec Ideal ⟨2, ![4096, 4096]⟩ .bf16) (w : FVec Ideal ⟨2, ![4096, 2048]⟩ .bf16)
    (hx : ∀ c : Dev Cert.KernelIdeal.nD, m ((c.tc : Thread Cert.KernelIdeal.nD Cert.KernelIdeal.τ).loc Cert.KernelIdeal.main_arg0) = xOf x c)
    (hw : ∀ c : Dev Cert.KernelIdeal.nD, m ((c.tc : Thread Cert.KernelIdeal.nD Cert.KernelIdeal.τ).loc Cert.KernelIdeal.main_arg1) = wOf w c)
    (c : Dev Cert.KernelIdeal.nD) :
    finalA m ρ c (2 : Fin 3) = Layout.block ⟨2, ![4096, 512]⟩ ⟨2, ![4096, 2048]⟩ 1 4 c (Ref.out x w) := by
  rw [result_eq, ← Out_eq, show xs m ρ = xOf x from funext fun c => (xs_eq m ρ c).trans (hx c),
    show ws m ρ = wOf w from funext fun c => (ws_eq m ρ c).trans (hw c)]

/-- The value claim: every device of the kernel ends with its block of the reference's result. -/
theorem algebraic : Cert.algebraic_KernelIdeal_ReferenceIdeal := by
  intro m ρ m' ρ' _ hb
  refine ⟨Ref.out (F := Ideal)
      (m' (((0 : Dev Cert.ReferenceIdeal.nD).tc : Thread Cert.ReferenceIdeal.nD Cert.ReferenceIdeal.τ).loc
        Cert.ReferenceIdeal.main_arg0))
      (m' (((0 : Dev Cert.ReferenceIdeal.nD).tc : Thread Cert.ReferenceIdeal.nD Cert.ReferenceIdeal.τ).loc
        Cert.ReferenceIdeal.main_arg1)),
    (θ_run Cert.KernelIdeal.defs _ _).mono
      (fun _ h c => ⟨(h.1 c (2 : Fin 3)).trans
        (result_of_blocks m ρ _ _ (fun c => (hb c).1) (fun c => (hb c).2) c), args_unchanged m ρ h.1 c⟩)
      (run_main (F := Ideal) m ρ),
    (θ_run Cert.ReferenceIdeal.defs _ _).mono (fun _ h => ⟨(h 0).1, (h 0).2⟩)
      (Cert.ReferenceIdeal.Value.run (F := Ideal) m' ρ')⟩

end Cert.RingQuant

end
-- ==== Proof.lean ====
/-
The proof of `Cert.Claim`: the facts the three programs state; the frames of the kernel, of the kernel over the extended
reals and of the reference (`Proof/Frames.lean`); that nothing is lost between the first two, which holds as it stands;
and the value claim (`Proof/Algebraic.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.RingQuant.frame_kernel, Cert.RingQuant.frame_ideal, Cert.RingQuant.frame_reference, trivial, Cert.RingQuant.algebraic⟩

end Cert.Proof

end
